-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selectable [hPre_selectable : Cert.Pre_selectable.Facts] (m : (ℓ : Loc Cert.KernelIdeal.nD Cert.KernelIdeal.τ Cert.KernelIdeal.sig) → Buf (Elt Ideal) ℓ) : Prop :=
  ∀ c : Dev Cert.KernelIdeal.nD,
    (Cert.Pre_selectable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selectable [hPre_selectable : Cert.Pre_selectable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selectable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_selectable [hKernelIdeal : Cert.KernelIdeal.Facts] [hPre_selectable : Cert.Pre_selectable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selectable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_selectable [hReferenceIdeal : Cert.ReferenceIdeal.Facts] [hPre_selectable : Cert.Pre_selectable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selectable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_selectable [hKernelIdeal : Cert.KernelIdeal.Facts] [hReferenceIdeal : Cert.ReferenceIdeal.Facts] [hPre_selectable : Cert.Pre_selectable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selectable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_selectable : Cert.Pre_selectable.Facts),
    quiescent_Kernel (hKernel := hKernel)
    ∧ quiescent_KernelIdeal (hKernelIdeal := hKernelIdeal)
    ∧ quiescent_KernelIdeal_pre_selectable (hKernelIdeal := hKernelIdeal) (hPre_selectable := hPre_selectable)
    ∧ quiescent_ReferenceIdeal (hReferenceIdeal := hReferenceIdeal)
    ∧ quiescent_ReferenceIdeal_pre_selectable (hReferenceIdeal := hReferenceIdeal) (hPre_selectable := hPre_selectable)
    ∧ preserves_Kernel_KernelIdeal
    ∧ algebraic_KernelIdeal_ReferenceIdeal_pre_selectable (hKernelIdeal := hKernelIdeal) (hReferenceIdeal := hReferenceIdeal) (hPre_selectable := hPre_selectable)
-- ==== Pre_selectable.lean ====
abbrev S16384x2048 : Shape := ⟨2, ![16384, 2048]⟩
abbrev S65536 : Shape := ⟨1, ![65536]⟩
abbrev S3x65536 : Shape := ⟨2, ![3, 65536]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S3x65536 : S_.BroadcastsInDim S3x65536 (![] : Fin 0 → Fin S3x65536.rank)
  reducesTo_S3x65536_S_d0_1 : S3x65536.ReducesTo [0, 1] S_

variable [Facts]

def fn {F : FTy → Type} [FloatOps F] (main_arg0 : FVec F S16384x2048 .f32) (main_arg1 : FVec F S16384x2048 .f32) (main_arg2 : FVec F S65536 .f32) (main_arg3 : FVec F S3x65536 .f32) : IVec S_ 1 :=
  let main_cst : FVec F S_ .f32 := constant S_ .f32 0xFF800000#32
  let main_v0 : FVec F S65536 .f32 := broadcastInDim S65536 ![] bcast_S_S65536 main_cst
  let main_v1 : IVec S65536 1 := cmpf .ogt main_arg2 main_v0
  let main_c : IVec S_ 1 := constantI S_ 1 1#1
  let main_v2 : IVec S_ 1 := (fun x v => Host.reduce IntOp.andi x v reducesTo_S65536_S_d0 h_S_) main_v1 main_c
  let main_v3 : FVec F S3x65536 .f32 := Host.absf main_arg3
  let main_cst_0 : FVec F S_ .f32 := constant S_ .f32 0x7F800000#32
  let main_v4 : FVec F S3x65536 .f32 := broadcastInDim S3x65536 ![] bcast_S_S3x65536 main_cst_0
  let main_v5 : IVec S3x65536 1 := cmpf .olt main_v3 main_v4
  let main_c_1 : IVec S_ 1 := constantI S_ 1 1#1
  let main_v6 : IVec S_ 1 := (fun x v => Host.reduce IntOp.andi x v reducesTo_S3x65536_S_d0_1 h_S_) main_v5 main_c_1
  let main_v7 : IVec S_ 1 := andi main_v2 main_v6
  main_v7
-- ==== Kernel.lean ====
abbrev S16384x2048 : Shape := ⟨2, ![16384, 2048]⟩
abbrev S65536 : Shape := ⟨1, ![65536]⟩
abbrev S3x65536 : Shape := ⟨2, ![3, 65536]⟩
abbrev S512x128 : Shape := ⟨2, ![512, 128]⟩
abbrev S3x512x128 : Shape := ⟨3, ![3, 512, 128]⟩
abbrev S1x1 : Shape := ⟨2, ![1, 1]⟩
abbrev S_ : Shape := ⟨0, ![]⟩
abbrev S1024x2048 : Shape := ⟨2, ![1024, 2048]⟩
abbrev S1x512x128 : Shape := ⟨3, ![1, 512, 128]⟩
abbrev S1 : Shape := ⟨1, ![1]⟩
abbrev S1x1x1 : Shape := ⟨3, ![1, 1, 1]⟩
abbrev S1x1024x2048 : Shape := ⟨3, ![1, 1024, 2048]⟩

abbrev nBuf : Space → Nat
  | .hbm => 12
  | .vmem => 6
  | .smem => 5
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S65536, .f32⟩
  | .hbm, ⟨3, _⟩ => ⟨S3x65536, .f32⟩
  | .hbm, ⟨4, _⟩ => ⟨S512x128, .f32⟩
  | .hbm, ⟨5, _⟩ => ⟨S3x512x128, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S512x128, .f32⟩
  | .local _ .vmem, ⟨5, _⟩ => ⟨S3x512x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2_0 : Ref sig .tc := ⟨.hbm, 6, rfl⟩
abbrev main_call0_v2_1 : Ref sig .tc := ⟨.hbm, 7, rfl⟩
abbrev main_call0_v2_2 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_scratch0 : Ref sig .tc := ⟨.smem, 3, rfl⟩
abbrev cc0_scratch1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c20_i32 : BitVec 32 := 20#32
  let v26 : BitVec 32 := Scalar.addi c0_i32_15 c20_i32
  let c1_i32 : BitVec 32 := 1#32
  ⟨c0_i32_15, v26, c1_i32⟩
def k0_cond2 (i : grid0.Coords) : BitVec 1 :=
  let arg0 : BitVec 32 := BitVec.ofNat 32 (i 0).val
  let c15_i32 : BitVec 32 := 15#32
  let v14 : BitVec 1 := Scalar.cmpi .eq arg0 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x2048 : Shape := ⟨2, ![16384, 2048]⟩
abbrev S65536 : Shape := ⟨1, ![65536]⟩
abbrev S3x65536 : Shape := ⟨2, ![3, 65536]⟩
abbrev S_ : Shape := ⟨0, ![]⟩
abbrev S20 : Shape := ⟨1, ![20]⟩
abbrev S20x1 : Shape := ⟨2, ![20, 1]⟩
abbrev S3x20 : Shape := ⟨2, ![3, 20]⟩
abbrev S20x3 : Shape := ⟨2, ![20, 3]⟩
abbrev S3 : Shape := ⟨1, ![3]⟩
abbrev S1x3 : Shape := ⟨2, ![1, 3]⟩
abbrev S3x3 : Shape := ⟨2, ![3, 3]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S65536, .f32⟩
  | .hbm, ⟨3, _⟩ => ⟨S3x65536, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S65536, .f32⟩
  | .hbm, ⟨11, _⟩ => ⟨S65536, .i32⟩
  | .hbm, ⟨12, _⟩ => ⟨S65536, .f32⟩
  | .hbm, ⟨13, _⟩ => ⟨S65536, .i32⟩
  | .hbm, ⟨14, _⟩ => ⟨S20, .i32⟩
  | .hbm, ⟨15, _⟩ => ⟨S_, .i32⟩
  | .hbm, ⟨16, _⟩ => ⟨S20, .i32⟩
  | .hbm, ⟨17, _⟩ => ⟨S20, .i1⟩
  | .hbm, ⟨18, _⟩ => ⟨S_, .i32⟩
  | .hbm, ⟨19, _⟩ => ⟨S20, .i32⟩
  | .hbm, ⟨20, _⟩ => ⟨S20, .i32⟩
  | .hbm, ⟨21, _⟩ => ⟨S20, .i32⟩
  | .hbm, ⟨22, _⟩ => ⟨S20x1, .i32⟩
  | .hbm, ⟨23, _⟩ => ⟨S3x20, .f32⟩
  | .hbm, ⟨24, _⟩ => ⟨S20x3, .f32⟩
  | .hbm, ⟨25, _⟩ => ⟨S_, .f32⟩
  | .hbm, ⟨26, _⟩ => ⟨S3, .f32⟩
  | .hbm, ⟨27, _⟩ => ⟨S_, .f32⟩
  | .hbm, ⟨28, _⟩ => ⟨S3, .f32⟩
  | .hbm, ⟨29, _⟩ => ⟨S3, .f32⟩
  | .hbm, ⟨30, _⟩ => ⟨S1x3, .f32⟩
  | .hbm, ⟨31, _⟩ => ⟨S20x3, .f32⟩
  | .hbm, ⟨32, _⟩ => ⟨S20x3, .f32⟩
  | .hbm, ⟨33, _⟩ => ⟨S3x20, .f32⟩
  | .hbm, ⟨34, _⟩ => ⟨S3x3, .f32⟩
  | .hbm, ⟨35, _⟩ => ⟨S_, .f32⟩
  | .hbm, ⟨36, _⟩ => ⟨S3x3, .f32⟩
  | .hbm, ⟨37, _⟩ => ⟨S3x3, .f32⟩
  | .hbm, ⟨38, _⟩ => ⟨S3x3, .i32⟩
  | .hbm, ⟨39, _⟩ => ⟨S3x3, .i32⟩
  | .hbm, ⟨40, _⟩ => ⟨S_, .i32⟩
  | .hbm, ⟨41, _⟩ => ⟨S3x3, .i32⟩
  | .hbm, ⟨42, _⟩ => ⟨S3x3, .i32⟩
  | .hbm, ⟨43, _⟩ => ⟨S3x3, .i1⟩
  | .hbm, ⟨44, _⟩ => ⟨S_, .f32⟩
  | .hbm, ⟨45, _⟩ => ⟨S3x3, .f32⟩
  | .hbm, ⟨46, _⟩ => ⟨S3x3, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_v1 : Ref sig .tc := ⟨.hbm, 39, rfl⟩
abbrev main_call1_c : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_cst : Ref sig .tc := ⟨.hbm, 44, rfl⟩
abbrev main_call1_v5 : Ref sig .tc := ⟨.hbm, 45, rfl⟩
abbrev main_call1_v6 : Ref sig .tc := ⟨.hbm, 46, rfl⟩
abbrev main_call1_cst_0 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩

abbrev nD : Nat := 1
abbrev τ : Topo := Topo.v7x

variable {F : FTy → Type} [FloatOps F]
-- ==== Proof.Pre.lean ====
module

public import proofs.«01_k».proof.Pre_selectable
public import Idealize.ShloMosaic.Lib.ReduceAll
public import Idealize.ShloMosaic.Lib.Pointwise

/-! # The precondition, decoded

The predicate holds exactly when every latent value is above minus infinity and every coordinate is a real number. Only
the forward direction is needed. -/

@[expose] public section

set_option maxRecDepth 16384

noncomputable section

namespace Cert.Proof

open Idealize.ShloMosaic Cert.Pre_selectable

/-- The predicate's side conditions on shapes. -/
theorem preFacts : Cert.Pre_selectable.Facts where
  bcast_S_S65536 := by decide
  reducesTo_S65536_S_d0 := by decide
  h_S_ := by decide
  bcast_S_S3x65536 := by decide
  reducesTo_S3x65536_S_d0_1 := by decide

theorem word_bot : Ideal.ofBits .f32 0xFF800000#32 = ⊥ := by simp [Ideal.ofBits, Ideal.ieee]

theorem word_top : Ideal.ofBits .f32 0x7F800000#32 = ⊤ := by simp [Ideal.ofBits, Ideal.ieee]

/-- Both bits of a conjunction that is one are one. -/
theorem and_bits (a b : BitVec 1) (h : IntOp.andi a b = 1#1) : a = 1#1 ∧ b = 1#1 := by
  revert a b; decide

/-- A decision whose bit is one holds. -/
theorem of_bit (P : Prop) [Decidable P] (h : BitVec.ofBool (decide P) = 1#1) : P := by
  by_contra hn
  rw [decide_eq_false hn] at h
  exact absurd h (by decide)

/-- A number whose absolute value is below infinity is real. -/
theorem real_of_abs (x : EReal) (h : max x (-x) < ⊤) : ∃ r : ℝ, x = (r : EReal) := by
  induction x using EReal.rec with
  | bot => simp at h
  | top => simp at h
  | coe r => exact ⟨r, rfl⟩

variable [Cert.Pre_selectable.Facts]

/-- Under the precondition every latent value is above minus infinity, and every coordinate is real. -/
theorem pre_decode (a0 a1 : FVec Ideal S16384x2048 .f32) (x : FVec Ideal S65536 .f32) (y : FVec Ideal S3x65536 .f32)
    (h : fn (F := Ideal) a0 a1 x y = fun _ => 1#1) :
    (∀ q : Fin 65536, ⊥ < x (ix1 q)) ∧ ∀ (a : Fin 3) (p : Fin 65536), ∃ r : ℝ, y (ix2 a p) = (r : EReal) := by
  have h0 := congrFun h ix0
  dsimp only [fn] at h0
  obtain ⟨h1, h2⟩ := and_bits _ _ h0
  constructor
  · intro q
    have hq := Host.reduce_andi_all _ _ _ _ _ h1 (ix1 q)
    have hq' : BitVec.ofBool (decide (Ideal.ofBits .f32 0xFF800000#32 < x (ix1 q))) = 1#1 := hq
    rw [word_bot] at hq'
    exact of_bit _ hq'
  · intro a p
    have hq := Host.reduce_andi_all _ _ _ _ _ h2 (ix2 a p)
    have hq' : BitVec.ofBool (decide (max (y (ix2 a p)) (-(y (ix2 a p))) < Ideal.ofBits .f32 0x7F800000#32)) = 1#1 := hq
    rw [word_top] at hq'
    exact real_of_abs _ (of_bit _ hq')

end Cert.Proof

end
-- ==== Proof.Body.lean ====
module

public import proofs.«01_k».proof.Proof.Gen.KernelIdeal.Frame
public import Idealize.ShloMosaic.Lib.Pipeline.Value

/-! What the kernel's body leaves in its two scalar scratch words and its three scalar results at one grid point,
as terms over the values it read: the first point, a middle point, the last point. -/

@[expose] public section

set_option maxRecDepth 16384

noncomputable section

namespace Cert.Proof

open Cert.KernelIdeal Cert.KernelIdeal.Gen Idealize.ShloMosaic Idealize.ShloMosaic.TcCoe Idealize.SL.Sem

variable {F : FTy → Type} [FloatOps F]

/-- A two-entry vector of zeros is the zero function. -/
theorem zeros2 : (![0, 0] : Fin 2 → Nat) = fun _ => 0 := by
  funext a; fin_cases a <;> rfl

/-- The selection mask after the kernel's counted loop over the latent block `v`. -/
def maskOf (v : Vec F S512x128 .f32) : FVec F S512x128 .f32 :=
  Scf.fold (fun (_ : Fin (Scf.trips k0_t1_loop.lb k0_t1_loop.ub k0_t1_loop.st)) s => k0_pay6 v s) k0_pay5

/-- Coordinate plane 0 of the coordinate block. -/
def plane0 (x3 : Vec F S3x512x128 .f32) : Vec F S1x512x128 .f32 :=
  View.ld x3 (Rect.unit ![0, 0, 0] ![1, 512, 128] inb_S3x512x128_S1x512x128_0_0_0)

/-- Coordinate plane 1 of the coordinate block. -/
def plane1 (x3 : Vec F S3x512x128 .f32) : Vec F S1x512x128 .f32 :=
  View.ld x3 (Rect.unit ![1, 0, 0] ![1, 512, 128] inb_S3x512x128_S1x512x128_1_0_0)

/-- Coordinate plane 2 of the coordinate block. -/
def plane2 (x3 : Vec F S3x512x128 .f32) : Vec F S1x512x128 .f32 :=
  View.ld x3 (Rect.unit ![2, 0, 0] ![1, 512, 128] inb_S3x512x128_S1x512x128_2_0_0)

/-- The covariance term the first grid point stores: the weighted trace over the three planes at the mask. -/
def covTerm (x2 : Vec F S512x128 .f32) (x3 : Vec F S3x512x128 .f32) : F .f32 :=
  k0_pay1 (maskOf x2) (k0_pay7 (maskOf x2) (plane0 x3)) (k0_pay9 (maskOf x2) (plane1 x3)) (k0_pay10 (plane1 x3))
    (plane2 x3)

/-- The first point leaves in the running-sum word zero plus its block's sum. -/
theorem acc_first (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : cond0_0 i) (hc1 : ¬cond0_1 i)
    (x0 : Vec F S1024x2048 .f32) (x1 : Vec F S1024x2048 .f32) (x2 : Vec F S512x128 .f32) (x3 : Vec F S3x512x128 .f32) :
    sout0_A_0 c i arg1 harg1 arg2 harg2 arg3 harg3 arg4 harg4 arg5 harg5 arg6 harg6 arg7 harg7 arg8 harg8 arg9 harg9 hc0 hc1 x0 x1 x2 x3
      = fun _ => k0_pay2 (Scalar.ofBits .f32 0x00000000#32) x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

/-- The first point leaves in the covariance word the covariance term. -/
theorem cov_first (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : cond0_0 i) (hc1 : ¬cond0_1 i)
    (x0 : Vec F S1024x2048 .f32) (x1 : Vec F S1024x2048 .f32) (x2 : Vec F S512x128 .f32) (x3 : Vec F S3x512x128 .f32) :
    sout0_A_1 c i arg1 harg1 arg2 harg2 arg3 harg3 arg4 harg4 arg5 harg5 arg6 harg6 arg7 harg7 arg8 harg8 arg9 harg9 hc0 hc1 x0 x1 x2 x3
      = fun _ => covTerm x2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

/-- A middle point adds its block's sum to the running-sum word. -/
theorem acc_mid (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : ¬cond0_0 i) (hc1 : ¬cond0_1 i)
    (x0 : Vec F S1024x2048 .f32) (x1 : Vec F S1024x2048 .f32) (x2 : Vec F S512x128 .f32) (x3 : Vec F S3x512x128 .f32) (xs0 xs1 : Vec F S1x1 .f32) (a b : F .f32) (hs0 : xs0 = fun _ => a) (hs1 : xs1 = fun _ => b) :
    sout0_B_0 c i arg1 harg1 arg2 harg2 arg3 harg3 arg4 harg4 arg5 harg5 arg6 harg6 arg7 harg7 arg8 harg8 arg9 harg9 hc0 hc1 x0 x1 x2 x3 xs0 xs1
      = fun _ => k0_pay2 a x0 x1 := by
  subst hs0 hs1
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 _ _)]
  unfold kernelRun0_B
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

/-- The last point adds its block's sum to the running-sum word. -/
theorem acc_last (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : ¬cond0_0 i) (hc1 : cond0_1 i)
    (x0 : Vec F S1024x2048 .f32) (x1 : Vec F S1024x2048 .f32) (x2 : Vec F S512x128 .f32) (x3 : Vec F S3x512x128 .f32) (xs0 xs1 : Vec F S1x1 .f32) (a b : F .f32) (hs0 : xs0 = fun _ => a) (hs1 : xs1 = fun _ => b) :
    sout0_C_0 c i arg1 harg1 arg2 harg2 arg3 harg3 arg4 harg4 arg5 harg5 arg6 harg6 arg7 harg7 arg8 harg8 arg9 harg9 hc0 hc1 x0 x1 x2 x3 xs0 xs1
      = fun _ => k0_pay2 a x0 x1 := by
  subst hs0 hs1
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 _ _)]
  unfold kernelRun0_C
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

/-- The last point's first result: the mean plus the covariance word. -/
theorem total_last (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : ¬cond0_0 i) (hc1 : cond0_1 i)
    (x0 : Vec F S1024x2048 .f32) (x1 : Vec F S1024x2048 .f32) (x2 : Vec F S512x128 .f32) (x3 : Vec F S3x512x128 .f32) (xs0 xs1 : Vec F S1x1 .f32) (a b : F .f32) (hs0 : xs0 = fun _ => a) (hs1 : xs1 = fun _ => b) :
    out0_C_4 c i arg1 harg1 arg2 harg2 arg3 harg3 arg4 harg4 arg5 harg5 arg6 harg6 arg7 harg7 arg8 harg8 arg9 harg9 hc0 hc1 x0 x1 x2 x3 xs0 xs1
      = fun _ => k0_pay4 (k0_pay2 a x0 x1) b := by
  subst hs0 hs1
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 x2 x3 _ _)]
  unfold kernelRun0_C
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

/-- The last point's second result: the mean. -/
theorem mean_last (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : ¬cond0_0 i) (hc1 : cond0_1 i)
    (x0 : Vec F S1024x2048 .f32) (x1 : Vec F S1024x2048 .f32) (x2 : Vec F S512x128 .f32) (x3 : Vec F S3x512x128 .f32) (xs0 xs1 : Vec F S1x1 .f32) (a b : F .f32) (hs0 : xs0 = fun _ => a) (hs1 : xs1 = fun _ => b) :
    out0_C_5 c i arg1 harg1 arg2 harg2 arg3 harg3 arg4 harg4 arg5 harg5 arg6 harg6 arg7 harg7 arg8 harg8 arg9 harg9 hc0 hc1 x0 x1 x2 x3 xs0 xs1
      = fun _ => k0_pay3 (k0_pay2 a x0 x1) := by
  subst hs0 hs1
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 _ _)]
  unfold kernelRun0_C
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

/-- The last point's third result: the covariance word. -/
theorem cov_last (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S512x128 .f32) (harg3 : arg3.IsWhole) (arg4 : Memref sig .tc .vmem S3x512x128 .f32) (harg4 : arg4.IsWhole) (arg5 : Memref sig .tc .smem S1x1 .f32) (harg5 : arg5.IsWhole) (arg6 : Memref sig .tc .smem S1x1 .f32) (harg6 : arg6.IsWhole) (arg7 : Memref sig .tc .smem S1x1 .f32) (harg7 : arg7.IsWhole) (arg8 : Memref sig .tc .smem S1x1 .f32) (harg8 : arg8.IsWhole) (arg9 : Memref sig .tc .smem S1x1 .f32) (harg9 : arg9.IsWhole) (hc0 : ¬cond0_0 i) (hc1 : cond0_1 i)
    (x0 : Vec F S1024x2048 .f32) (x1 : Vec F S1024x2048 .f32) (x2 : Vec F S512x128 .f32) (x3 : Vec F S3x512x128 .f32) (xs0 xs1 : Vec F S1x1 .f32) (a b : F .f32) (hs0 : xs0 = fun _ => a) (hs1 : xs1 = fun _ => b) :
    out0_C_6 c i arg1 harg1 arg2 harg2 arg3 harg3 arg4 harg4 arg5 harg5 arg6 harg6 arg7 harg7 arg8 harg8 arg9 harg9 hc0 hc1 x0 x1 x2 x3 xs0 xs1
      = fun _ => b := by
  subst hs0 hs1
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 _ _)]
  unfold kernelRun0_C
  dsimp only
  sl_unfold_words
  simp only [View.canon_cons_unit_zero (S := S1x1) zeros2, View.canon_unit_zero (S := S1x1) zeros2, View.readCov_unit_zero (S := S1x1) _ zeros2, View.readAt_eq_ld, harg1.read_unread, harg2.read_unread, harg3.read_unread, harg4.read_unread, harg8.read_unread, harg9.read_unread, View.ld_unit_zero (S := S1024x2048) zeros2, View.ld_unit_zero (S := S512x128) zeros2]
  rfl

end Cert.Proof

end
-- ==== Proof.Points.lean ====
module

public import proofs.«01_k».proof.Proof.Body
public import Idealize.ShloMosaic.Lib.StableHlo.ReadAt

/-! The kernel's run, read: what its three result buffers hold, as terms over the blocks the grid points read. -/

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The running sum of absolute differences after grid point `n`: zero plus the block sums in point order. -/
def accOf (c : Dev nD) : (n : ℕ) → n < cfg0.N → F .f32
  | 0, h => k0_pay2 (Scalar.ofBits .f32 0x00000000#32) (iblk m c 0 ⟨0, h⟩) (iblk m c 1 ⟨0, h⟩)
  | n + 1, h => k0_pay2 (accOf c n (Nat.lt_of_succ_lt h)) (iblk m c 0 ⟨n + 1, h⟩) (iblk m c 1 ⟨n + 1, h⟩)

/-- The grid has a first point. -/
theorem first_lt : 0 < cfg0.N := by rw [show cfg0.N = 16 from N_0]; decide

/-- The grid has a sixteenth point. -/
theorem last_lt : 15 < cfg0.N := by rw [show cfg0.N = 16 from N_0]; decide

/-- The covariance term of the first point's blocks. -/
def covOf (c : Dev nD) : F .f32 := covTerm (iblk m c 2 ⟨0, first_lt⟩) (iblk m c 3 ⟨0, first_lt⟩)

/-- After every point the first scratch word holds the running sum and the second the covariance term. -/
theorem scratch (c : Dev nD) : ∀ (n : ℕ) (h : n < cfg0.N),
    (outsAt0 m c n h).2.2.2.1 = (fun _ => accOf m c n h) ∧ (outsAt0 m c n h).2.2.2.2 = (fun _ => covOf m c)
  | 0, h => by
    have e := outsAt0_A m c ⟨0, h⟩ (Nat.zero_mod _) (by show ¬ (0 % 16 = 15); omega)
    refine ⟨?_, ?_⟩
    · have e1 := congrArg (fun p => p.2.2.2.1) e
      dsimp only at e1; exact e1.trans (acc_first ..)
    · have e1 := congrArg (fun p => p.2.2.2.2) e
      dsimp only at e1; exact e1.trans (cov_first ..)
  | n + 1, h => by
    obtain ⟨ha, hb⟩ := scratch c n (Nat.lt_of_succ_lt h)
    have hN : n + 1 < 16 := lt_of_lt_of_eq h (show cfg0.N = 16 from N_0)
    have h0 : ¬ (⟨n + 1, h⟩ : Fin cfg0.N).val % 16 = 0 := by show ¬ ((n + 1) % 16 = 0); omega
    by_cases h1 : (⟨n + 1, h⟩ : Fin cfg0.N).val % 16 = 15
    · have e := outsAt0_C m c ⟨n + 1, h⟩ h0 h1
      have e1 := congrArg (fun p => p.2.2.2.1) e
      have e2 := congrArg (fun p => p.2.2.2.2) e
      dsimp only at e1 e2
      refine ⟨?_, ?_⟩
      · rw [e1]; exact acc_last (hs0 := ha) (hs1 := hb) ..
      · rw [e2]; exact hb
    · have e := outsAt0_B m c ⟨n + 1, h⟩ h0 h1
      have e1 := congrArg (fun p => p.2.2.2.1) e
      have e2 := congrArg (fun p => p.2.2.2.2) e
      dsimp only at e1 e2
      refine ⟨?_, ?_⟩
      · rw [e1]; exact acc_mid (hs0 := ha) (hs1 := hb) ..
      · rw [e2]; exact hb

/-- At the last point the three results are: mean plus covariance term, mean, covariance term. -/
theorem outs_last (c : Dev nD) (t : Fin cfg0.N) (h1 : t.val % 16 = 15) :
    (outsAt0 m c t.val t.isLt).1 = (fun _ => k0_pay4 (accOf m c 15 last_lt) (covOf m c))
    ∧ (outsAt0 m c t.val t.isLt).2.1 = (fun _ => k0_pay3 (accOf m c 15 last_lt))
    ∧ (outsAt0 m c t.val t.isLt).2.2.1 = (fun _ => covOf m c) := by
  have hN : t.val < 16 := lt_of_lt_of_eq t.isLt (show cfg0.N = 16 from N_0)
  obtain ⟨n, hn⟩ := t
  obtain rfl : n = 15 := by simp only at h1 hN; omega
  obtain ⟨ha, hb⟩ := scratch m c 14 (Nat.lt_of_succ_lt hn)
  have h0 : ¬ (⟨15, hn⟩ : Fin cfg0.N).val % 16 = 0 := by show ¬ (15 % 16 = 0); omega
  have e := outsAt0_C m c ⟨15, hn⟩ h0 h1
  have e4 := congrArg Prod.fst e
  have e5 := congrArg (fun p => Prod.fst (Prod.snd p)) e
  have e6 := congrArg (fun p => Prod.fst (Prod.snd (Prod.snd p))) e
  dsimp only at e4 e5 e6
  refine ⟨?_, ?_, ?_⟩
  · rw [e4]; exact total_last (hs0 := ha) (hs1 := hb) ..
  · rw [e5]; exact mean_last (hs0 := ha) (hs1 := hb) ..
  · rw [e6]; exact cov_last (hs0 := ha) (hs1 := hb) ..

/-- The first result array after the run. -/
theorem final4 (c : Dev nD) : (dats m 0 c).arrAt 4 cfg0.N = fun _ => k0_pay4 (accOf m c 15 last_lt) (covOf m c) :=
  (dats m 0 c).arrAt_eq_of_cover 4 _ (fun t hf => by
      have e : (dats m 0 c).flushed 4 t = (cfg0.win 4).cut (grid0.coords t) ((outsAt0 m c t.val t.isLt).1) := by
        show (cfg0.win 4).cut (grid0.coords t) ((dats m 0 c).after 4 t) = _
        rw [after0_4]
      rw [e, (outs_last m c t ((flush0_4 t).mp hf)).1]
      rfl) fun i => ⟨⟨15, last_lt⟩, (flush0_4 _).mpr rfl, by
      show i ∈ ((View.whole main_call0_v2_0).slice (win0_4.rect ⟨15, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index ⟨15, last_lt⟩ 0 * win0_4.size 0 ≤ (i 0 : Nat) ∧ (i 0 : Nat) < win0_4.index ⟨15, last_lt⟩ 0 * win0_4.size 0 + win0_4.xsize (grid0.coords ⟨15, last_lt⟩) 0
        rw [show win0_4.index ⟨15, last_lt⟩ 0 * win0_4.size 0 = 0 from by decide +kernel, show win0_4.xsize (grid0.coords ⟨15, last_lt⟩) 0 = 1 from by decide +kernel]; omega
      | ⟨1, _⟩ =>
        show win0_4.index ⟨15, last_lt⟩ 1 * win0_4.size 1 ≤ (i 1 : Nat) ∧ (i 1 : Nat) < win0_4.index ⟨15, last_lt⟩ 1 * win0_4.size 1 + win0_4.xsize (grid0.coords ⟨15, last_lt⟩) 1
        rw [show win0_4.index ⟨15, last_lt⟩ 1 * win0_4.size 1 = 0 from by decide +kernel, show win0_4.xsize (grid0.coords ⟨15, last_lt⟩) 1 = 1 from by decide +kernel]; omega⟩

/-- The second result array after the run. -/
theorem final5 (c : Dev nD) : (dats m 0 c).arrAt 5 cfg0.N = fun _ => k0_pay3 (accOf m c 15 last_lt) :=
  (dats m 0 c).arrAt_eq_of_cover 5 _ (fun t hf => by
      have e : (dats m 0 c).flushed 5 t = (cfg0.win 5).cut (grid0.coords t) ((outsAt0 m c t.val t.isLt).2.1) := by
        show (cfg0.win 5).cut (grid0.coords t) ((dats m 0 c).after 5 t) = _
        rw [after0_5]
      rw [e, (outs_last m c t ((flush0_5 t).mp hf)).2.1]
      rfl) fun i => ⟨⟨15, last_lt⟩, (flush0_5 _).mpr rfl, by
      show i ∈ ((View.whole main_call0_v2_1).slice (win0_5.rect ⟨15, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index ⟨15, last_lt⟩ 0 * win0_5.size 0 ≤ (i 0 : Nat) ∧ (i 0 : Nat) < win0_5.index ⟨15, last_lt⟩ 0 * win0_5.size 0 + win0_5.xsize (grid0.coords ⟨15, last_lt⟩) 0
        rw [show win0_5.index ⟨15, last_lt⟩ 0 * win0_5.size 0 = 0 from by decide +kernel, show win0_5.xsize (grid0.coords ⟨15, last_lt⟩) 0 = 1 from by decide +kernel]; omega
      | ⟨1, _⟩ =>
        show win0_5.index ⟨15, last_lt⟩ 1 * win0_5.size 1 ≤ (i 1 : Nat) ∧ (i 1 : Nat) < win0_5.index ⟨15, last_lt⟩ 1 * win0_5.size 1 + win0_5.xsize (grid0.coords ⟨15, last_lt⟩) 1
        rw [show win0_5.index ⟨15, last_lt⟩ 1 * win0_5.size 1 = 0 from by decide +kernel, show win0_5.xsize (grid0.coords ⟨15, last_lt⟩) 1 = 1 from by decide +kernel]; omega⟩

/-- The third result array after the run. -/
theorem final6 (c : Dev nD) : (dats m 0 c).arrAt 6 cfg0.N = fun _ => covOf m c :=
  (dats m 0 c).arrAt_eq_of_cover 6 _ (fun t hf => by
      have e : (dats m 0 c).flushed 6 t = (cfg0.win 6).cut (grid0.coords t) ((outsAt0 m c t.val t.isLt).2.2.1) := by
        show (cfg0.win 6).cut (grid0.coords t) ((dats m 0 c).after 6 t) = _
        rw [after0_6]
      rw [e, (outs_last m c t ((flush0_6 t).mp hf)).2.2]
      rfl) fun i => ⟨⟨15, last_lt⟩, (flush0_6 _).mpr rfl, by
      show i ∈ ((View.whole main_call0_v2_2).slice (win0_6.rect ⟨15, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index ⟨15, last_lt⟩ 0 * win0_6.size 0 ≤ (i 0 : Nat) ∧ (i 0 : Nat) < win0_6.index ⟨15, last_lt⟩ 0 * win0_6.size 0 + win0_6.xsize (grid0.coords ⟨15, last_lt⟩) 0
        rw [show win0_6.index ⟨15, last_lt⟩ 0 * win0_6.size 0 = 0 from by decide +kernel, show win0_6.xsize (grid0.coords ⟨15, last_lt⟩) 0 = 1 from by decide +kernel]; omega
      | ⟨1, _⟩ =>
        show win0_6.index ⟨15, last_lt⟩ 1 * win0_6.size 1 ≤ (i 1 : Nat) ∧ (i 1 : Nat) < win0_6.index ⟨15, last_lt⟩ 1 * win0_6.size 1 + win0_6.xsize (grid0.coords ⟨15, last_lt⟩) 1
        rw [show win0_6.index ⟨15, last_lt⟩ 1 * win0_6.size 1 = 0 from by decide +kernel, show win0_6.xsize (grid0.coords ⟨15, last_lt⟩) 1 = 1 from by decide +kernel]; omega⟩

/-- The windows' arrays are distinct buffers. -/
theorem arr_inj : Function.Injective (Pipeline.arrRef (cfgs 0).spec) := by decide

/-- The first result buffer after the run: the first result array, reshaped to a scalar. -/
theorem tail0 (c : Dev nD) : Pipeline.afterTail₀ cfgs (dats m) 0 (V0 m) [hostOps1] c main_v0_0
    = fun _ => k0_pay4 (accOf m c 15 last_lt) (covOf m c) := by
  unfold Pipeline.afterTail₀
  funext j
  after_reads_simp
  rw [show (Pipeline.withArrays (cfgs 0).spec c (V0 m c) (fun w => (dats m 0 c).arrAt w (cfgs 0).N)
        (Proc.tc.devRef main_call0_v2_0)) = (dats m 0 c).arrAt 4 (cfgs 0).N from
      Pipeline.withArrays_arr (cfgs 0).spec arr_inj c (V0 m c) (fun w => (dats m 0 c).arrAt w (cfgs 0).N) 4]
  exact congrFun (congrArg (fun X => shapeCast S_ X shapeCasts_S1x1_S_) (final4 m c)) j

/-- The second result buffer after the run: the second result array, reshaped to a scalar. -/
theorem tail1 (c : Dev nD) : Pipeline.afterTail₀ cfgs (dats m) 0 (V0 m) [hostOps1] c main_v0_1
    = fun _ => k0_pay3 (accOf m c 15 last_lt) := by
  unfold Pipeline.afterTail₀
  funext j
  after_reads_simp
  rw [show (Pipeline.withArrays (cfgs 0).spec c (V0 m c) (fun w => (dats m 0 c).arrAt w (cfgs 0).N)
        (Proc.tc.devRef main_call0_v2_1)) = (dats m 0 c).arrAt 5 (cfgs 0).N from
      Pipeline.withArrays_arr (cfgs 0).spec arr_inj c (V0 m c) (fun w => (dats m 0 c).arrAt w (cfgs 0).N) 5]
  exact congrFun (congrArg (fun X => shapeCast S_ X shapeCasts_S1x1_S_) (final5 m c)) j

/-- The third result buffer after the run: the third result array, reshaped to a scalar. -/
theorem tail2 (c : Dev nD) : Pipeline.afterTail₀ cfgs (dats m) 0 (V0 m) [hostOps1] c main_v0_2
    = fun _ => covOf m c := by
  unfold Pipeline.afterTail₀
  funext j
  after_reads_simp
  rw [show (Pipeline.withArrays (cfgs 0).spec c (V0 m c) (fun w => (dats m 0 c).arrAt w (cfgs 0).N)
        (Proc.tc.devRef main_call0_v2_2)) = (dats m 0 c).arrAt 6 (cfgs 0).N from
      Pipeline.withArrays_arr (cfgs 0).spec arr_inj c (V0 m c) (fun w => (dats m 0 c).arrAt w (cfgs 0).N) 6]
  exact congrFun (congrArg (fun X => shapeCast S_ X shapeCasts_S1x1_S_) (final6 m c)) j

/-- The kernel's run: its three results as terms over the blocks read, its arguments unchanged. -/
theorem kernel_run : θ_run defs (onTc (τ := τ) (main (F := F))) ⟨m, fun _ => 0, ρ⟩ fun r => ∀ c : Dev nD,
      r.2.mem ((c : Thread nD τ).loc main_v0_0) = (fun _ => k0_pay4 (accOf m c 15 last_lt) (covOf m c))
      ∧ r.2.mem ((c : Thread nD τ).loc main_v0_1) = (fun _ => k0_pay3 (accOf m c 15 last_lt))
      ∧ r.2.mem ((c : Thread nD τ).loc main_v0_2) = (fun _ => covOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨h1, h2⟩ := h
      exact ⟨((h1 c).2 main_v0_0 (Pipeline.mem_restRefs_of main_v0_0 (by decide) (by decide))).trans (tail0 m c),
        ((h1 c).2 main_v0_1 (Pipeline.mem_restRefs_of main_v0_1 (by decide) (by decide))).trans (tail1 m c),
        ((h1 c).2 main_v0_2 (Pipeline.mem_restRefs_of main_v0_2 (by decide) (by decide))).trans (tail2 m c),
        h2 c⟩)
    (θ_run_and (run_main m ρ) (unchanged m ρ))

/-- The latent block is the latent vector in 512 rows of 128. -/
theorem latent_block (c : Dev nD) (t : Fin cfg0.N) :
    (iblk m c 2 t : Vec F S512x128 .f32)
      = shapeCast S512x128 (m ((c : Thread nD τ).loc main_arg2) : Vec F S65536 .f32) shapeCasts_S65536_S512x128 := by
  have hv : V m c main_call0_v0
      = shapeCast S512x128 (m ((c : Thread nD τ).loc main_arg2) : Vec F S65536 .f32) shapeCasts_S65536_S512x128 := by
    unfold V V0
    after_reads_simp
    rfl
  have hi : win0_2.index t 0 = 0 ∧ win0_2.index t 1 = 0 := ⟨rfl, rfl⟩
  funext j
  unfold iblk
  rw [View.read_apply]
  refine Eq.trans ?_ (congrFun hv j)
  show V m c main_call0_v0 _ = V m c main_call0_v0 _
  congr 1
  funext a
  apply Fin.ext
  match a with
  | ⟨0, _⟩ => show win0_2.index t 0 * 512 + 1 * (j 0).val = (j 0).val; rw [hi.1]; omega
  | ⟨1, _⟩ => show win0_2.index t 1 * 128 + 1 * (j 1).val = (j 1).val; rw [hi.2]; omega

/-- The coordinate block is the coordinate array in three planes of 512 rows of 128. -/
theorem coord_block (c : Dev nD) (t : Fin cfg0.N) :
    (iblk m c 3 t : Vec F S3x512x128 .f32)
      = shapeCast S3x512x128 (m ((c : Thread nD τ).loc main_arg3) : Vec F S3x65536 .f32) shapeCasts_S3x65536_S3x512x128 := by
  have hv : V m c main_call0_v1
      = shapeCast S3x512x128 (m ((c : Thread nD τ).loc main_arg3) : Vec F S3x65536 .f32) shapeCasts_S3x65536_S3x512x128 := by
    unfold V V0
    after_reads_simp
    rfl
  have hi : win0_3.index t 0 = 0 ∧ win0_3.index t 1 = 0 ∧ win0_3.index t 2 = 0 := ⟨rfl, rfl, rfl⟩
  funext j
  unfold iblk
  rw [View.read_apply]
  refine Eq.trans ?_ (congrFun hv j)
  show V m c main_call0_v1 _ = V m c main_call0_v1 _
  congr 1
  funext a
  apply Fin.ext
  match a with
  | ⟨0, _⟩ => show win0_3.index t 0 * 3 + 1 * (j 0).val = (j 0).val; rw [hi.1]; omega
  | ⟨1, _⟩ => show win0_3.index t 1 * 512 + 1 * (j 1).val = (j 1).val; rw [hi.2.1]; omega
  | ⟨2, _⟩ => show win0_3.index t 2 * 128 + 1 * (j 2).val = (j 2).val; rw [hi.2.2]; omega

/-- Row `1024 * t + r` of argument 0 is row `r` of the block point `t` reads of it. -/
theorem block0 (c : Dev nD) (t : Fin cfg0.N) (j : S1024x2048.Idx) (i : S16384x2048.Idx)
    (h0 : (i 0).val = 1024 * t.val + (j 0).val) (h1 : (i 1).val = (j 1).val) :
    (iblk m c 0 t : Vec F S1024x2048 .f32) j = (m ((c : Thread nD τ).loc main_arg0) : Vec F S16384x2048 .f32) i := by
  have hi : win0_0.index t 0 = t.val ∧ win0_0.index t 1 = 0 := by
    refine ⟨?_, rfl⟩
    rcases fin_N0 t with rfl | rfl | rfl | rfl | rfl | rfl | rfl | rfl | rfl | rfl | rfl | rfl | rfl | rfl | rfl | rfl <;> decide
  unfold iblk
  rw [View.read_apply]
  refine Eq.trans ?_ (congrFun (V_main_arg0 m c) i)
  show V m c main_arg0 _ = V m c main_arg0 _
  congr 1
  funext a
  apply Fin.ext
  match a with
  | ⟨0, _⟩ => show win0_0.index t 0 * 1024 + 1 * (j 0).val = (i 0).val; rw [hi.1, h0]; omega
  | ⟨1, _⟩ => show win0_0.index t 1 * 2048 + 1 * (j 1).val = (i 1).val; rw [hi.2, h1]; omega

/-- Row `1024 * t + r` of argument 1 is row `r` of the block point `t` reads of it. -/
theorem block1 (c : Dev nD) (t : Fin cfg0.N) (j : S1024x2048.Idx) (i : S16384x2048.Idx)
    (h0 : (i 0).val = 1024 * t.val + (j 0).val) (h1 : (i 1).val = (j 1).val) :
    (iblk m c 1 t : Vec F S1024x2048 .f32) j = (m ((c : Thread nD τ).loc main_arg1) : Vec F S16384x2048 .f32) i := by
  have hi : win0_1.index t 0 = t.val ∧ win0_1.index t 1 = 0 := by
    refine ⟨?_, rfl⟩
    rcases fin_N0 t with rfl | rfl | rfl | rfl | rfl | rfl | rfl | rfl | rfl | rfl | rfl | rfl | rfl | rfl | rfl | rfl <;> decide
  unfold iblk
  rw [View.read_apply]
  refine Eq.trans ?_ (congrFun (V_main_arg1 m c) i)
  show V m c main_arg1 _ = V m c main_arg1 _
  congr 1
  funext a
  apply Fin.ext
  match a with
  | ⟨0, _⟩ => show win0_1.index t 0 * 1024 + 1 * (j 0).val = (i 0).val; rw [hi.1, h0]; omega
  | ⟨1, _⟩ => show win0_1.index t 1 * 2048 + 1 * (j 1).val = (i 1).val; rw [hi.2, h1]; omega

end Cert.Proof

end
-- ==== Proof.L1.lean ====
module

public import proofs.«01_k».proof.Proof.Points
public import proofs.«01_k».proof.Proof.Gen.ReferenceIdeal
public import Idealize.ShloMosaic.Lib.ValueIdx
public import Idealize.ShloMosaic.Lib.Pointwise
public import Idealize.ShloMosaic.PureOps.Ideal.Laws

/-! The sum of absolute differences at the ideal values: the kernel's sixteen block sums add up to the reference's one
sum over the whole array. -/

@[expose] public section

set_option maxRecDepth 16384

noncomputable section

namespace Cert.Proof

open Cert.KernelIdeal Cert.KernelIdeal.Gen Idealize.ShloMosaic Idealize.ShloMosaic.TcCoe Idealize.SL.Sem

/-- The sum over a recast array is the sum over the array. -/
theorem sum_shapeCast {s t : Shape} (x : s.Idx → EReal) (h : s.ShapeCasts t) :
    ∑ i : t.Idx, shapeCast t x h i = ∑ j : s.Idx, x j :=
  Equiv.sum_comp (Shape.reshapeEquiv h) x

/-- The absolute difference of two extended reals. -/
def absDiff (a b : EReal) : EReal := max (a - b) (-(a - b))

/-- The single entry of a sum over a recast block: the total of the block. -/
theorem extract_sum {s u : Shape} {axes : List (Fin u.rank)} (v : s.Idx → EReal) (h : s.ShapeCasts u)
    (hr : u.Reduces axes S1) (hφ : FKind.Formats .f32) (hacc : (0x00000000#32 : BitVec 32) = FKind.add.neutral .f32 hφ)
    (hc : S1.ShapeCasts S1x1x1) (hp : ∀ a, (![0, 0, 0] : Fin 3 → Nat) a < S1x1x1.size a) :
    extractAt ![0, 0, 0] (shapeCast S1x1x1 (multiReduction (F := Ideal) (φ := .f32) .add axes S1 (shapeCast u v h) 0x00000000#32 hr hφ hacc) hc) hp
      = ∑ j : s.Idx, v j := by
  unfold extractAt
  unfold shapeCast
  rw [Ideal.multiReduction_add_total _ _ hr (by decide)]
  exact Equiv.sum_comp (Shape.reshapeEquiv h) v

/-- One block's update of the running sum adds the sum of the block's absolute differences. -/
theorem pay2_eq (a : Ideal .f32) (x y : Vec Ideal S1024x2048 .f32) :
    k0_pay2 a x y = a + ∑ j : S1024x2048.Idx, absDiff (x j) (y j) := by
  exact congrArg (a + ·) ((extract_sum (absf (F := Ideal) (φ := .f32) (subf x y)) shapeCasts_S1024x2048_S1x1024x2048
    reduces_S1x1024x2048_S1 (.inl rfl) rfl shapeCasts_S1_S1x1x1 inpos_S1x1x1_p0_0_0).trans (Finset.sum_congr rfl fun _ _ => rfl))

variable (m : (ℓ : Loc nD τ sig) → Buf (Elt Ideal) ℓ)

/-- The absolute difference of the two tables at a row and a column. -/
def diffAt (c : Dev nD) (r : Fin 16384) (b : Fin 2048) : EReal :=
  absDiff (m ((c.tc : Thread nD τ).loc main_arg0) (ix2 r b)) (m ((c.tc : Thread nD τ).loc main_arg1) (ix2 r b))

/-- Block `t`'s sum of absolute differences; zero past the last block. -/
def blockSum (c : Dev nD) (t : ℕ) : EReal :=
  if h : t < 16 then ∑ a : Fin 1024, ∑ b : Fin 2048, diffAt m c ⟨1024 * t + a.val, by omega⟩ b else 0

/-- The sum the body adds at point `t` is block `t`'s. -/
theorem blockSum_eq (c : Dev nD) (n : ℕ) (h : n < cfg0.N) :
    ∑ j : S1024x2048.Idx, absDiff ((iblk m c 0 ⟨n, h⟩ : Vec Ideal S1024x2048 .f32) j) ((iblk m c 1 ⟨n, h⟩ : Vec Ideal S1024x2048 .f32) j)
      = blockSum m c n := by
  have h16 : n < 16 := h
  unfold blockSum
  rw [dif_pos h16, sum_idx2]
  refine Finset.sum_congr rfl fun a _ => Finset.sum_congr rfl fun b _ => ?_
  unfold diffAt
  rw [block0 m c ⟨n, h⟩ (ix2 a b) (ix2 ⟨1024 * n + a.val, by omega⟩ b) rfl rfl,
    block1 m c ⟨n, h⟩ (ix2 a b) (ix2 ⟨1024 * n + a.val, by omega⟩ b) rfl rfl]

/-- The running sum after point `n` is the sum of the blocks so far. -/
theorem accOf_eq (c : Dev nD) (n : ℕ) (h : n < cfg0.N) :
    accOf m c n h = ∑ t ∈ Finset.range (n + 1), blockSum m c t := by
  induction n with
  | zero =>
    unfold accOf
    rw [pay2_eq, blockSum_eq, Finset.sum_range_one]
    have h0 : (Scalar.ofBits .f32 0x00000000#32 : Ideal .f32) = (0 : EReal) := by
      show Ideal.ofBits .f32 0x00000000#32 = 0
      simp [Ideal.ofBits, Ideal.ieee]
    rw [h0, zero_add]
  | succ n ih =>
    unfold accOf
    rw [pay2_eq, blockSum_eq, ih (Nat.lt_of_succ_lt h), Finset.sum_range_succ _ (n + 1)]

/-- The sixteen block sums add up to the sum over the whole table. -/
theorem blocks_total (c : Dev nD) :
    ∑ t ∈ Finset.range 16, blockSum m c t = ∑ r : Fin 16384, ∑ b : Fin 2048, diffAt m c r b := by
  rw [Finset.sum_range]
  have hb : ∀ t : Fin 16, blockSum m c t.val
      = ∑ a : Fin 1024, ∑ b : Fin 2048, diffAt m c (finProdFinEquiv (m := 16) (n := 1024) (t, a)) b := fun t => by
    unfold blockSum
    rw [dif_pos t.isLt]
    refine Finset.sum_congr rfl fun a _ => Finset.sum_congr rfl fun b _ => ?_
    congr 1
    refine Fin.ext ?_
    show 1024 * t.val + a.val = a.val + 1024 * t.val
    omega
  rw [Finset.sum_congr rfl fun t _ => hb t]
  rw [← Equiv.sum_comp (finProdFinEquiv (m := 16) (n := 1024)) (fun r => ∑ b : Fin 2048, diffAt m c r b), Fintype.sum_prod_type]

/-- The running sum after the last point is the sum over the whole table. -/
theorem acc_total (c : Dev nD) :
    accOf m c 15 last_lt = ∑ r : Fin 16384, ∑ b : Fin 2048, diffAt m c r b := by
  rw [accOf_eq, blocks_total]

/-- The reference's mean absolute difference, the same sum divided by the same constant. -/
theorem ref_l1 (hr : Cert.ReferenceIdeal.S16384x2048.ReducesTo [0, 1] Cert.ReferenceIdeal.S_) (hu : 0 < Cert.ReferenceIdeal.S_.numel)
    (x y : FVec Ideal Cert.ReferenceIdeal.S16384x2048 .f32) (j : Cert.ReferenceIdeal.S_.Idx) :
    Host.divf (Host.reduceAdd (F := Ideal) (Host.absf (subf x y)) (constant Cert.ReferenceIdeal.S_ .f32 0x00000000#32) hr hu)
        (constant Cert.ReferenceIdeal.S_ .f32 0x4C000000#32) j
      = k0_pay3 (F := Ideal) (∑ r : Fin 16384, ∑ b : Fin 2048, absDiff (x (ix2 r b)) (y (ix2 r b))) := by
  have h0 : (Ideal.ofBits .f32 0x00000000#32 : EReal) = 0 := by
    simp [Ideal.ofBits, Ideal.ieee]
  have e : Host.reduceAdd (F := Ideal) (Host.absf (subf x y)) (constant Cert.ReferenceIdeal.S_ .f32 0x00000000#32) hr hu j
      = ∑ r : Fin 16384, ∑ b : Fin 2048, absDiff (x (ix2 r b)) (y (ix2 r b)) := by
    refine (Ideal.hostReduceAdd_total hr (fun b => b.elim0) _ _ j).trans ?_
    rw [sum_idx2]
    refine (congrArg (· + _) h0).trans ((zero_add _).trans ?_)
    rfl
  exact congrArg (fun t : EReal => k0_pay3 (F := Ideal) t) e

end Cert.Proof

end
-- ==== Proof.SortPos.lean ====
module

public import Idealize.ShloMosaic.Lib.SortPrefix
public import Idealize.ShloMosaic.Lib.SortFacts
public import Idealize.ShloMosaic.PureOps.Ideal

/-! The positions of a table of extended reals in decreasing order of value, equal values by position: what the
stable sort of the negated table puts at each place, and that each place holds the best position not yet taken. -/

@[expose] public section

noncomputable section

namespace Cert.Proof

open Idealize.ShloMosaic

/-- A stable sort of an increasing list does not see how a comparator orders a later position against an earlier
one: two comparators that agree when the second position is the earlier one sort the list alike. -/
theorem stableSort_increasing {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => ?_
    exact h a b (hl.1 b ((perm_stableSort R' l).mem_iff.mp hb))

/-- The same of the sorting permutation of all the positions. -/
theorem sortedFrom_increasing {n : Nat} (R R' : Fin n → Fin n → Bool) (h : ∀ a b, a < b → R b a = R' b a) :
    sortedFrom R = sortedFrom R' := by
  funext k
  unfold sortedFrom
  rw [List.get_of_eq (show sortPositions n R = sortPositions n R' from
    stableSort_increasing R R' h _ (List.pairwise_lt_finRange n))]
  rfl

variable {n : Nat} (L : Fin n → EReal)

/-- Position `a` ranks above position `b`: its value is greater, or the values are equal and it comes first. -/
def better (a b : Fin n) : Bool :=
  decide (L b < L a) || (decide (L a = L b) && decide (a < b))

/-- Ranking above is a strict total order. -/
theorem better_total : StrictTotalBefore (better L) := by
  classical
  exact StrictTotalBefore.of_key_then_position (fun x y : EReal => decide (y < x)) L (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- The position ranked `i`-th, counting from zero. -/
def pick (i : Fin n) : Fin n := sortedFrom (better L) i

/-- The stable sort by decreasing value alone puts at place `i` the position ranked `i`-th. -/
theorem sortedFrom_decreasing : sortedFrom (fun a b : Fin n => decide (L b < L a)) = pick L := by
  unfold pick
  funext i
  refine congrFun (sortedFrom_increasing _ _ fun a b hab => ?_) i
  have : decide (b < a) = false := by simp; exact le_of_lt hab
  simp only [better, this, Bool.and_false, Bool.or_false]

/-- Different places hold different positions. -/
theorem pick_injective : Function.Injective (pick L) := sortedFrom_injective _

/-- The position at place `i` ranks above every other position not placed before it. -/
theorem pick_best (i q : Fin n) (hq : ∀ j, j ≤ i → pick L j ≠ q) : better L (pick L i) q = true := by
  obtain ⟨j, rfl⟩ := sortedFrom_surjective (better L) q
  have hij : i < j := by
    by_contra hlt
    exact hq j (not_lt.mp hlt) rfl
  have hB := better_total L
  have hno := sortedFrom_noInversion (better L) (better L) hB.asymm (fun _ _ h => h) hB.negTrans i j hij
  rcases hB.total (pick L i) (sortedFrom (better L) j) (fun e => hij.ne (pick_injective L e)) with h | h
  · exact h
  · exact absurd (h.symm.trans hno) (by decide)

/-- Its value is at least that of every position not placed before it. -/
theorem pick_max (i q : Fin n) (hq : ∀ j, j < i → pick L j ≠ q) : L q ≤ L (pick L i) := by
  by_cases e : pick L i = q
  · rw [e]
  · have h := pick_best L i q fun j hj => by
      rcases lt_or_eq_of_le hj with h | h
      · exact hq j h
      · rw [h]; exact e
    simp only [better, Bool.or_eq_true, Bool.and_eq_true, decide_eq_true_eq] at h
    rcases h with h | h
    · exact le_of_lt h
    · exact le_of_eq h.1.symm

/-- Of the positions of its value not placed before it, it is the first. -/
theorem pick_first (i q : Fin n) (hq : ∀ j, j < i → pick L j ≠ q) (hv : L q = L (pick L i)) : pick L i ≤ q := by
  by_cases e : pick L i = q
  · rw [e]
  · have h := pick_best L i q fun j hj => by
      rcases lt_or_eq_of_le hj with h | h
      · exact hq j h
      · rw [h]; exact e
    simp only [better, Bool.or_eq_true, Bool.and_eq_true, decide_eq_true_eq, hv, lt_irrefl, false_or] at h
    exact le_of_lt h.2

end Cert.Proof

end
-- ==== Proof.Select.lean ====
module

public import proofs.«01_k».proof.Proof.L1
public import proofs.«01_k».proof.Proof.SortPos
public import Idealize.ShloMosaic.PureOps.Reduce

/-! One trip of the kernel's selection loop at the ideal values: it marks the best position not yet marked. -/

@[expose] public section

set_option maxRecDepth 16384

noncomputable section

namespace Cert.Proof

open Cert.KernelIdeal Cert.KernelIdeal.Gen Idealize.ShloMosaic Idealize.ShloMosaic.TcCoe Idealize.SL.Sem

/-! ## The two total reductions -/

/-- A fold over a recast array is the fold over the array. -/
theorem fold_shapeCast {α : Type} (op : α → α → α) [Std.Commutative op] [Std.Associative op] (b : α) {s u : Shape} (v : s.Idx → α)
    (h : s.ShapeCasts u) :
    (Finset.univ : Finset u.Idx).fold op b (shapeCast u v h) = (Finset.univ : Finset s.Idx).fold op b v := by
  rw [← Finset.univ_map_equiv_to_embedding (Shape.reshapeEquiv h), Finset.fold_map]
  rfl

/-- The one-entry shape has one index. -/
theorem one_index (i j : S1.Idx) : i = j := by
  funext a
  have ha : a = 0 := Subsingleton.elim _ _
  subst ha
  refine Fin.ext ?_
  have h1 : (i 0).val < 1 := (i 0).isLt
  have h2 : (j 0).val < 1 := (j 0).isLt
  omega

/-- The single entry of a maximum over a recast block: the maximum of the block from negative infinity. -/
theorem extract_max {s u : Shape} {axes : List (Fin u.rank)} (v : FVec Ideal s .f32) (h : s.ShapeCasts u)
    (hr : u.Reduces axes S1) (hφ : FKind.Formats .f32) (hacc : (0xFF800000#32 : BitVec 32) = FKind.maximumf.neutral .f32 hφ)
    (hc : S1.ShapeCasts S1x1x1) (hp : ∀ a, (![0, 0, 0] : Fin 3 → Nat) a < S1x1x1.size a) :
    extractAt ![0, 0, 0] (shapeCast S1x1x1 (multiReduction (F := Ideal) (φ := .f32) .maximumf axes S1 (shapeCast u v h) 0xFF800000#32 hr hφ hacc) hc) hp
      = (Finset.univ : Finset s.Idx).fold (max : EReal → EReal → EReal) ⊥ v := by
  unfold extractAt
  rw [shapeCast]
  refine (multiReduction_maximumf_eq_fold _ _ hr hφ hacc _).trans ?_
  rw [Finset.filter_true_of_mem fun i _ => one_index _ _]
  refine (fold_shapeCast _ _ v h).trans ?_
  have h0 : (FloatOps.ofBits (F := Ideal) .f32 0xFF800000#32 : EReal) = ⊥ := by
    show Ideal.ofBits .f32 0xFF800000#32 = ⊥
    simp [Ideal.ofBits, Ideal.ieee]
  rw [h0]
  rfl

/-- The single entry of a signed minimum over a recast block: the minimum of the block from the accumulator. -/
theorem extract_min {s u : Shape} {axes : List (Fin u.rank)} (v : IVec s 32) (h : s.ShapeCasts u)
    (hr : u.Reduces axes S1) (hacc : (2147483647#32 : BitVec 32) = IKind.minsi.neutral)
    (hc : S1.ShapeCasts S1x1x1) (hp : ∀ a, (![0, 0, 0] : Fin 3 → Nat) a < S1x1x1.size a) :
    extractAt ![0, 0, 0] (shapeCast S1x1x1 (multiReductionI .minsi axes S1 (shapeCast u v h) 2147483647#32 hr hacc) hc) hp
      = (Finset.univ : Finset s.Idx).fold IntOp.minsi 2147483647#32 v := by
  unfold extractAt
  rw [shapeCast]
  refine (multiReductionI_eq_fold _ _ _ hr hacc _).trans ?_
  rw [Finset.filter_true_of_mem fun i _ => one_index _ _]
  exact fold_shapeCast _ _ v h

/-- A signed minimum of two words is one of them and its value is the smaller. -/
theorem minsi_cases (x y : BitVec 32) : (IntOp.minsi x y = x ∧ x.toInt ≤ y.toInt) ∨ (IntOp.minsi x y = y ∧ y.toInt ≤ x.toInt) := by
  unfold IntOp.minsi
  by_cases hxy : x.slt y = true
  · rw [if_pos hxy]
    exact Or.inl ⟨rfl, le_of_lt (BitVec.slt_iff_toInt_lt.mp hxy)⟩
  · rw [if_neg hxy]
    exact Or.inr ⟨rfl, not_lt.mp fun hlt => hxy (BitVec.slt_iff_toInt_lt.mpr hlt)⟩

/-- A fold of the signed minimum is at most every word met and at most the start, and is one of them. -/
theorem fold_minsi {ι : Type} [DecidableEq ι] (g : ι → BitVec 32) (s : Finset ι) (b : BitVec 32) :
    (s.fold IntOp.minsi b g).toInt ≤ b.toInt ∧ (∀ i ∈ s, (s.fold IntOp.minsi b g).toInt ≤ (g i).toInt) ∧
      (s.fold IntOp.minsi b g = b ∨ ∃ i ∈ s, s.fold IntOp.minsi b g = g i) := by
  induction s using Finset.induction_on with
  | empty =>
    rw [Finset.fold_empty]
    exact ⟨le_rfl, fun i hi => absurd hi (Finset.notMem_empty i), Or.inl rfl⟩
  | insert a s has ih =>
    obtain ⟨h1, h2, h3⟩ := ih
    rw [Finset.fold_insert has]
    rcases minsi_cases (g a) (s.fold IntOp.minsi b g) with ⟨e, hle⟩ | ⟨e, hle⟩
    · rw [e]
      refine ⟨hle.trans h1, fun i hi => ?_, Or.inr ⟨a, Finset.mem_insert_self a s, rfl⟩⟩
      rcases Finset.mem_insert.mp hi with rfl | hi
      · exact le_rfl
      · exact hle.trans (h2 i hi)
    · rw [e]
      refine ⟨h1, fun i hi => ?_, ?_⟩
      · rcases Finset.mem_insert.mp hi with rfl | hi
        · exact hle
        · exact h2 i hi
      · rcases h3 with h3 | ⟨i, hi, h3⟩
        · exact Or.inl h3
        · exact Or.inr ⟨i, Finset.mem_insert_of_mem hi, h3⟩

/-! ## Positions -/

/-- The position of a block's entry in the flat table. -/
def flat (j : S512x128.Idx) : Fin 65536 :=
  ⟨(j 0).val * 128 + (j 1).val, by
    have h0 : (j 0).val < 512 := (j 0).isLt
    have h1 : (j 1).val < 128 := (j 1).isLt
    omega⟩

/-- The entry of a block at a position of the flat table. -/
def unflat (p : Fin 65536) : S512x128.Idx :=
  ix2 ⟨p.val / 128, by omega⟩ ⟨p.val % 128, by omega⟩

theorem flat_unflat (p : Fin 65536) : flat (unflat p) = p := by
  refine Fin.ext ?_
  show p.val / 128 * 128 + p.val % 128 = p.val
  omega

theorem unflat_flat (j : S512x128.Idx) : unflat (flat j) = j := by
  have h1 : (j 1).val < 128 := (j 1).isLt
  funext a
  match a with
  | ⟨0, _⟩ =>
    refine Fin.ext ?_
    show ((j 0).val * 128 + (j 1).val) / 128 = (j 0).val
    omega
  | ⟨1, _⟩ =>
    refine Fin.ext ?_
    show ((j 0).val * 128 + (j 1).val) % 128 = (j 1).val
    omega

/-- Entries of a block and positions of the flat table, one to one. -/
def flatEquiv : S512x128.Idx ≃ Fin 65536 := ⟨flat, unflat, unflat_flat, flat_unflat⟩

/-- A position as a 32-bit word. -/
def posWord (p : Fin 65536) : BitVec 32 := BitVec.ofNat 32 p.val

theorem posWord_toInt (p : Fin 65536) : (posWord p).toInt = (p.val : Int) := by
  have hp := p.isLt
  unfold posWord
  rw [BitVec.toInt_eq_toNat_of_lt (by rw [BitVec.toNat_ofNat]; omega), BitVec.toNat_ofNat, Nat.mod_eq_of_lt (by omega)]

theorem posWord_inj {p q : Fin 65536} (h : posWord p = posWord q) : p = q := by
  have := congrArg BitVec.toInt h
  rw [posWord_toInt, posWord_toInt] at this
  exact Fin.ext (by omega)

/-! ## One trip -/

/-- The block with the marked entries replaced by negative infinity. -/
def work (v s : S512x128.Idx → EReal) (j : S512x128.Idx) : EReal := if 0 < s j then ⊥ else v j

/-- The greatest entry left. -/
def top (v s : S512x128.Idx → EReal) : EReal := (Finset.univ : Finset S512x128.Idx).fold (max : EReal → EReal → EReal) ⊥ (work v s)

/-- The position of an entry that holds the greatest value left, the greatest word for the others. -/
def cand (v s : S512x128.Idx → EReal) (j : S512x128.Idx) : BitVec 32 :=
  if work v s j = top v s then posWord (flat j) else 2147483647#32

/-- The first position that holds the greatest value left. -/
def first (v s : S512x128.Idx → EReal) : BitVec 32 :=
  (Finset.univ : Finset S512x128.Idx).fold IntOp.minsi 2147483647#32 (cand v s)

/-- One trip over its block of remaining values `W` and the block of position words `P`. -/
def tripOf (W : FVec Ideal S512x128 .f32) (P : IVec S512x128 32) (s : FVec Ideal S512x128 .f32) : FVec Ideal S512x128 .f32 :=
  addf s (sitofp .f32 (extui 32 (cmpi .eq P (broadcast S512x128 (extractAt ![0, 0, 0] (shapeCast S1x1x1
    (multiReductionI .minsi [1, 2] S1 (shapeCast S1x512x128
      (select (cmpf .oeq W (broadcast S512x128 (extractAt ![0, 0, 0] (shapeCast S1x1x1
        (multiReduction .maximumf [1, 2] S1 (shapeCast S1x512x128 W shapeCasts_S512x128_S1x512x128) 0xFF800000#32
          reduces_S1x512x128_S1 (.inl rfl) rfl) shapeCasts_S1_S1x1x1) inpos_S1x1x1_p0_0_0)))
        P (broadcast S512x128 2147483647#32)) shapeCasts_S512x128_S1x512x128) 2147483647#32 reduces_S1x512x128_S1 rfl)
      shapeCasts_S1_S1x1x1) inpos_S1x1x1_p0_0_0))) natLt_1_32))

/-- A selection by equality of extended reals is a conditional. -/
theorem select_oeq (x y : EReal) (a b : BitVec 32) :
    Scalar.select (BitVec.ofBool (decide (x = y))) a b = if x = y then a else b := by
  by_cases h : x = y
  · rw [if_pos h, decide_eq_true h]; rfl
  · rw [if_neg h, decide_eq_false h]; rfl

/-- An equality bit widened and converted is one or zero. -/
theorem word_eq (x y : BitVec 32) :
    ((((BitVec.ofBool (x == y)).setWidth 32).toInt : ℝ) : EReal) = if x = y then 1 else 0 := by
  have h1 : ((BitVec.ofBool true).setWidth 32).toInt = 1 := by decide
  have h0 : ((BitVec.ofBool false).setWidth 32).toInt = 0 := by decide
  by_cases h : x = y
  · rw [if_pos h, beq_iff_eq.mpr h, h1, Int.cast_one, EReal.coe_one]
  · rw [if_neg h, beq_eq_false_iff_ne.mpr h, h0, Int.cast_zero, EReal.coe_zero]

/-- A trip's last steps: the widened equality bit added to the mask. -/
theorem addBit_apply (P : IVec S512x128 32) (f : BitVec 32) (s : FVec Ideal S512x128 .f32) (j : S512x128.Idx) :
    addf s (sitofp .f32 (extui 32 (cmpi .eq P (broadcast S512x128 f)) natLt_1_32)) j = s j + (if P j = f then 1 else 0 : EReal) := by
  rw [← word_eq]
  rfl

/-- A trip's candidate words. -/
theorem candOf_apply (W : FVec Ideal S512x128 .f32) (P : IVec S512x128 32) (t : EReal) (b : BitVec 32) :
    select (cmpf .oeq W (broadcast S512x128 t)) P (broadcast S512x128 b) = fun i => if W i = t then P i else b := by
  funext i
  rw [← select_oeq]
  rfl

/-- A trip adds one at the entries whose word is the least among the words of the greatest values. -/
theorem tripOf_apply (W : FVec Ideal S512x128 .f32) (P : IVec S512x128 32) (s : FVec Ideal S512x128 .f32) (j : S512x128.Idx) :
    tripOf W P s j = s j + (if P j = (Finset.univ : Finset S512x128.Idx).fold IntOp.minsi 2147483647#32
      (fun i => if W i = (Finset.univ : Finset S512x128.Idx).fold (max : EReal → EReal → EReal) ⊥ W then P i else 2147483647#32)
      then 1 else 0 : EReal) := by
  unfold tripOf
  rw [addBit_apply]
  rw [extract_max W shapeCasts_S512x128_S1x512x128 reduces_S1x512x128_S1 (.inl rfl) rfl shapeCasts_S1_S1x1x1 inpos_S1x1x1_p0_0_0]
  rw [extract_min _ shapeCasts_S512x128_S1x512x128 reduces_S1x512x128_S1 rfl shapeCasts_S1_S1x1x1 inpos_S1x1x1_p0_0_0]
  rw [candOf_apply]

/-- The kernel's position words. -/
theorem posWord_flat (j : S512x128.Idx) :
    addi (muli (iota .tc S512x128 32 [0] iota_S512x128_d0_w32) (broadcast S512x128 128#32)) (iota .tc S512x128 32 [1] iota_S512x128_d1_w32) j
      = posWord (flat j) := by
  show (iota .tc S512x128 32 [0] iota_S512x128_d0_w32 j) * 128#32 + iota .tc S512x128 32 [1] iota_S512x128_d1_w32 j = _
  rw [iota_single_apply, iota_single_apply]
  unfold posWord flat
  rw [BitVec.ofNat_add, BitVec.ofNat_mul]

/-- The kernel's block of remaining values. -/
theorem work_eq (v : Vec Ideal S512x128 .f32) (s : FVec Ideal S512x128 .f32) :
    select (cmpf (F := Ideal) (φ := .f32) .ogt s (broadcast S512x128 (Scalar.ofBits .f32 0x00000000#32)))
      (broadcast S512x128 (Scalar.ofBits (F := Ideal) .f32 0xFF800000#32)) (shapeCast S512x128 v shapeCasts_S512x128_S512x128) = work v s := by
  have h0 : (Ideal.ofBits .f32 0x00000000#32 : EReal) = 0 := by simp [Ideal.ofBits, Ideal.ieee]
  have h1 : (Ideal.ofBits .f32 0xFF800000#32 : EReal) = ⊥ := by simp [Ideal.ofBits, Ideal.ieee]
  rw [shapeCast_self]
  funext j
  show Scalar.select (BitVec.ofBool (decide (Ideal.ofBits .f32 0x00000000#32 < s j))) (Ideal.ofBits .f32 0xFF800000#32) (v j) = _
  rw [h0, h1]
  unfold work
  by_cases h : 0 < s j
  · rw [if_pos h, decide_eq_true h]; rfl
  · rw [if_neg h, decide_eq_false h]; rfl

/-- One trip adds one at the entry whose position is the first that holds the greatest value left. -/
theorem pay6_apply (v : Vec Ideal S512x128 .f32) (s : FVec Ideal S512x128 .f32) (j : S512x128.Idx) :
    k0_pay6 v s j = s j + (if posWord (flat j) = first v s then 1 else 0 : EReal) := by
  have e : k0_pay6 v s = tripOf
      (select (cmpf (F := Ideal) (φ := .f32) .ogt s (broadcast S512x128 (Scalar.ofBits .f32 0x00000000#32)))
        (broadcast S512x128 (Scalar.ofBits (F := Ideal) .f32 0xFF800000#32)) (shapeCast S512x128 v shapeCasts_S512x128_S512x128))
      (addi (muli (iota .tc S512x128 32 [0] iota_S512x128_d0_w32) (broadcast S512x128 128#32)) (iota .tc S512x128 32 [1] iota_S512x128_d1_w32))
      s := rfl
  have hP : addi (muli (iota .tc S512x128 32 [0] iota_S512x128_d0_w32) (broadcast S512x128 128#32)) (iota .tc S512x128 32 [1] iota_S512x128_d1_w32)
      = fun j => posWord (flat j) := funext posWord_flat
  rw [e, work_eq, hP, tripOf_apply]
  rfl

/-! ## The trip marks the best position left -/

/-- The block that is one at the positions of a set and zero elsewhere. -/
def marks (T : Finset (Fin 65536)) (j : S512x128.Idx) : EReal := if flat j ∈ T then 1 else 0

variable (L : Fin 65536 → EReal) (T : Finset (Fin 65536)) (p : Fin 65536)

/-- The remaining values, in positions: negative infinity at a marked one. -/
theorem work_marks (v : S512x128.Idx → EReal) (hv : ∀ j, v j = L (flat j)) (j : S512x128.Idx) :
    work v (marks T) j = if flat j ∈ T then ⊥ else L (flat j) := by
  unfold work marks
  by_cases h : flat j ∈ T
  · rw [if_pos h, if_pos h, if_pos zero_lt_one]
  · rw [if_neg h, if_neg h, if_neg (lt_irrefl _), hv]

variable (hp : p ∉ T) (hmax : ∀ q, q ∉ T → L q ≤ L p)
include hp hmax

/-- The greatest value left is the value at the best position left. -/
theorem top_marks (v : S512x128.Idx → EReal) (hv : ∀ j, v j = L (flat j)) : top v (marks T) = L p := by
  unfold top
  refine le_antisymm ?_ ?_
  · rw [Finset.fold_max_le]
    refine ⟨bot_le, fun j _ => ?_⟩
    rw [work_marks L T v hv]
    by_cases h : flat j ∈ T
    · rw [if_pos h]; exact bot_le
    · rw [if_neg h]; exact hmax _ h
  · rw [Finset.le_fold_max]
    refine Or.inr ⟨unflat p, Finset.mem_univ _, ?_⟩
    rw [work_marks L T v hv, flat_unflat, if_neg hp]

/-- The first position that holds it is the best position left. -/
theorem first_marks (v : S512x128.Idx → EReal) (hv : ∀ j, v j = L (flat j)) (hbot : ∀ q, ⊥ < L q)
    (hfirst : ∀ q, q ∉ T → L q = L p → p ≤ q) : first v (marks T) = posWord p := by
  have hcand : ∀ j, (posWord p).toInt ≤ (cand v (marks T) j).toInt := fun j => by
    unfold cand
    by_cases h : work v (marks T) j = top v (marks T)
    · rw [if_pos h]
      rw [work_marks L T v hv, top_marks L T p hp hmax v hv] at h
      by_cases hT : flat j ∈ T
      · rw [if_pos hT] at h
        exact absurd h (hbot p).ne
      · rw [if_neg hT] at h
        have := hfirst _ hT h
        rw [posWord_toInt, posWord_toInt]
        exact_mod_cast this
    · rw [if_neg h, posWord_toInt]
      have := p.isLt
      show (p.val : Int) ≤ 2147483647
      omega
  have hmem : cand v (marks T) (unflat p) = posWord p := by
    unfold cand
    rw [if_pos, flat_unflat]
    rw [work_marks L T v hv, top_marks L T p hp hmax v hv, flat_unflat, if_neg hp]
  obtain ⟨-, h2, h3⟩ := fold_minsi (cand v (marks T)) Finset.univ 2147483647#32
  have hle := h2 (unflat p) (Finset.mem_univ _)
  rw [hmem] at hle
  refine BitVec.eq_of_toInt_eq (le_antisymm hle ?_)
  unfold first
  rcases h3 with h3 | ⟨i, -, h3⟩
  · rw [h3, posWord_toInt]
    have := p.isLt
    show (p.val : Int) ≤ 2147483647
    omega
  · rw [h3]
    exact hcand i

/-- So a trip from the marks of a set gives the marks of the set with that position. -/
theorem pay6_marks (v : Vec Ideal S512x128 .f32) (hv : ∀ j, v j = L (flat j)) (hbot : ∀ q, ⊥ < L q)
    (hfirst : ∀ q, q ∉ T → L q = L p → p ≤ q) : k0_pay6 v (marks T) = marks (insert p T) := by
  funext j
  rw [pay6_apply, first_marks L T p hp hmax v hv hbot hfirst]
  unfold marks
  by_cases hj : flat j = p
  · rw [hj, if_neg hp, if_pos rfl, if_pos (Finset.mem_insert_self _ _), zero_add]
  · rw [if_neg (fun e => hj (posWord_inj e)), add_zero]
    by_cases hT : flat j ∈ T
    · rw [if_pos hT, if_pos (Finset.mem_insert_of_mem hT)]
    · rw [if_neg hT, if_neg (fun e => (Finset.mem_insert.mp e).elim hj hT)]

omit hp hmax

/-! ## The loop -/

/-- The positions ranked before `k`. -/
def taken (k : ℕ) : Finset (Fin 65536) := (Finset.univ.filter fun i : Fin 65536 => i.val < k).image (pick L)

theorem mem_taken (k : ℕ) (q : Fin 65536) : q ∈ taken L k ↔ ∃ i : Fin 65536, i.val < k ∧ pick L i = q := by
  unfold taken
  simp

/-- The positions ranked before `k + 1` are those before `k` and the one at `k`. -/
theorem taken_succ (k : Fin 65536) : taken L (k.val + 1) = insert (pick L k) (taken L k.val) := by
  ext q
  rw [Finset.mem_insert, mem_taken, mem_taken]
  constructor
  · rintro ⟨i, hi, rfl⟩
    rcases Nat.lt_or_eq_of_le (Nat.le_of_lt_succ hi) with h | h
    · exact Or.inr ⟨i, h, rfl⟩
    · exact Or.inl (congrArg (pick L) (Fin.ext h))
  · rintro (e | ⟨i, hi, e⟩)
    · exact ⟨k, Nat.lt_succ_self k.val, e.symm⟩
    · exact ⟨i, hi.trans (Nat.lt_succ_self k.val), e⟩

/-- `k` trips from the empty mask mark the positions ranked before `k`. -/
theorem trips_marks (v : Vec Ideal S512x128 .f32) (hv : ∀ j, v j = L (flat j)) (hbot : ∀ q, ⊥ < L q) (k : ℕ) (hk : k ≤ 65536) :
    (k0_pay6 v)^[k] (marks ∅) = marks (taken L k) := by
  induction k with
  | zero =>
    have : taken L 0 = ∅ := by
      ext q
      rw [mem_taken]
      simp
    rw [this]
    rfl
  | succ k ih =>
    have hk' : k < 65536 := by omega
    rw [Function.iterate_succ_apply', ih (le_of_lt hk')]
    have hnot : ∀ q, q ∉ taken L k → ∀ j : Fin 65536, j < ⟨k, hk'⟩ → pick L j ≠ q := fun q hq j hj e =>
      hq ((mem_taken L k q).mpr ⟨j, hj, e⟩)
    rw [pay6_marks L (taken L k) (pick L ⟨k, hk'⟩) ?_ ?_ v hv hbot ?_]
    · exact congrArg marks (taken_succ L ⟨k, hk'⟩).symm
    · rw [mem_taken]
      rintro ⟨i, hi, e⟩
      have := pick_injective L e
      rw [this] at hi
      exact lt_irrefl _ hi
    · exact fun q hq => pick_max L ⟨k, hk'⟩ q (hnot q hq)
    · exact fun q hq hv => pick_first L ⟨k, hk'⟩ q (hnot q hq) hv

/-- Folding a constant step over a list is iterating it. -/
theorem foldl_const {α β : Type} (f : α → α) (l : List β) (a : α) : l.foldl (fun s _ => f s) a = f^[l.length] a := by
  induction l generalizing a with
  | nil => rfl
  | cons b l ih => rw [List.foldl_cons, ih, List.length_cons, Function.iterate_succ_apply]

/-- The kernel's selection mask: one at the twenty positions of greatest value, zero elsewhere. -/
theorem maskOf_eq (v : Vec Ideal S512x128 .f32) (hv : ∀ j, v j = L (flat j)) (hbot : ∀ q, ⊥ < L q) :
    maskOf v = marks (taken L 20) := by
  have ht : Scf.trips k0_t1_loop.lb k0_t1_loop.ub k0_t1_loop.st = 20 := by decide +kernel
  have h5 : (k0_pay5 : FVec Ideal S512x128 .f32) = marks ∅ := by
    funext j
    have h0 : (Ideal.ofBits .f32 0x00000000#32 : EReal) = 0 := by simp [Ideal.ofBits, Ideal.ieee]
    refine Eq.trans (b := (Ideal.ofBits .f32 0x00000000#32 : EReal)) rfl ?_
    rw [h0]
    unfold marks
    rw [if_neg (Finset.notMem_empty _)]
  unfold maskOf
  rw [Scf.fold_eq, foldl_const, List.length_finRange, ht, h5]
  exact trips_marks L v hv hbot 20 (by norm_num)

end Cert.Proof

end
-- ==== Proof.Cov.lean ====
module

public import proofs.«01_k».proof.Proof.Select

/-! The kernel's covariance term at the ideal values: the weighted sum, over the three coordinate planes, of the
variance of the plane's values at the twenty selected positions. -/

@[expose] public section

set_option maxRecDepth 16384

noncomputable section

namespace Cert.Proof

open Cert.KernelIdeal Cert.KernelIdeal.Gen Idealize.ShloMosaic Idealize.ShloMosaic.TcCoe Idealize.SL.Sem

/-- The kernel's sum of a block. -/
def sumOf (v : FVec Ideal S512x128 .f32) : Ideal .f32 :=
  extractAt ![0, 0, 0] (shapeCast S1x1x1 (multiReduction .add [1, 2] S1 (shapeCast S1x512x128 v shapeCasts_S512x128_S1x512x128)
    0x00000000#32 reduces_S1x512x128_S1 (.inl rfl) rfl) shapeCasts_S1_S1x1x1) inpos_S1x1x1_p0_0_0

theorem sumOf_eq (v : FVec Ideal S512x128 .f32) : sumOf v = ∑ j : S512x128.Idx, v j :=
  extract_sum v shapeCasts_S512x128_S1x512x128 reduces_S1x512x128_S1 (.inl rfl) rfl shapeCasts_S1_S1x1x1 inpos_S1x1x1_p0_0_0

/-- The kernel's variance of a plane's values under a mask. -/
def varOf (M r : FVec Ideal S512x128 .f32) : Ideal .f32 :=
  Scalar.divf (Scalar.subf (sumOf (mulf (mulf r r) M))
    (Scalar.divf (Scalar.mulf (sumOf (mulf r M)) (sumOf (mulf r M))) (Scalar.ofBits .f32 0x41A00000#32)))
    (Scalar.ofBits .f32 0x41980000#32)

/-- A coordinate plane as a block of two axes. -/
def flatPlane (p : Vec Ideal S1x512x128 .f32) : FVec Ideal S512x128 .f32 := shapeCast S512x128 p shapeCasts_S1x512x128_S512x128

/-- The kernel's covariance term is the weighted sum of the three variances. -/
theorem covTerm_eq (x2 : Vec Ideal S512x128 .f32) (x3 : Vec Ideal S3x512x128 .f32) :
    covTerm x2 x3 = Scalar.mulf (Scalar.ofBits .f32 0x3CA3D70A#32)
      (Scalar.addf (Scalar.addf (Scalar.addf (Scalar.ofBits .f32 0x00000000#32) (varOf (maskOf x2) (flatPlane (plane0 x3))))
        (varOf (maskOf x2) (flatPlane (plane1 x3)))) (varOf (maskOf x2) (flatPlane (plane2 x3)))) := rfl

/-! ## Sums under the mask -/

/-- A sum under the marks of a set is the sum over the set. -/
theorem sum_marks (g : Fin 65536 → EReal) (T : Finset (Fin 65536)) :
    ∑ j : S512x128.Idx, g (flat j) * marks T j = ∑ p ∈ T, g p := by
  have e : ∀ j : S512x128.Idx, g (flat j) * marks T j = if flatEquiv j ∈ T then g (flatEquiv j) else 0 := fun j => by
    show g (flat j) * marks T j = if flat j ∈ T then g (flat j) else 0
    unfold marks
    by_cases h : flat j ∈ T
    · rw [if_pos h, if_pos h, mul_one]
    · rw [if_neg h, if_neg h, mul_zero]
  rw [Finset.sum_congr rfl fun j _ => e j, Equiv.sum_comp flatEquiv (fun p => if p ∈ T then g p else 0),
    ← Finset.sum_filter, Finset.filter_mem_eq_inter, Finset.univ_inter]

variable (L : Fin 65536 → EReal)

/-- The position ranked `i`-th of the twenty selected. -/
def chosen (i : Fin 20) : Fin 65536 := pick L (i.castLE (by norm_num))

/-- A sum over the twenty selected positions, by rank. -/
theorem sum_taken (g : Fin 65536 → EReal) : ∑ p ∈ taken L 20, g p = ∑ i : Fin 20, g (chosen L i) := by
  have e : taken L 20 = (Finset.univ : Finset (Fin 20)).image (chosen L) := by
    ext q
    rw [mem_taken, Finset.mem_image]
    constructor
    · rintro ⟨i, hi, e⟩
      exact ⟨⟨i.val, hi⟩, Finset.mem_univ _, e⟩
    · rintro ⟨i, -, e⟩
      exact ⟨i.castLE (by norm_num), i.isLt, e⟩
  rw [e, Finset.sum_image fun a _ b _ h => ?_]
  have := pick_injective L h
  exact Fin.castLE_injective _ this

/-- The variance in terms of the sums over the selected positions. -/
def variance (x : Fin 20 → EReal) : EReal :=
  Ideal.div ((∑ i, x i * x i) - Ideal.div ((∑ i, x i) * ∑ i, x i) (Ideal.ofBits .f32 0x41A00000#32)) (Ideal.ofBits .f32 0x41980000#32)

/-- The kernel's variance of a plane under the marks of the selected positions. -/
theorem varOf_marks (R : Fin 65536 → EReal) (r : FVec Ideal S512x128 .f32) (hr : ∀ j, r j = R (flat j)) :
    varOf (marks (taken L 20)) r = variance fun i => R (chosen L i) := by
  have h1 : sumOf (mulf r (marks (taken L 20))) = ∑ i, R (chosen L i) := by
    rw [sumOf_eq, ← sum_taken L R, ← sum_marks]
    exact Finset.sum_congr rfl fun j _ => congrArg (· * marks (taken L 20) j) (hr j)
  have h2 : sumOf (mulf (mulf r r) (marks (taken L 20))) = ∑ i, R (chosen L i) * R (chosen L i) := by
    rw [sumOf_eq, ← sum_taken L (fun p => R p * R p), ← sum_marks (fun p => R p * R p)]
    exact Finset.sum_congr rfl fun j _ => congrArg (fun t : EReal => t * t * marks (taken L 20) j) (hr j)
  unfold varOf
  rw [h1, h2]
  rfl

/-! ## The planes of the kernel's coordinate block -/

variable (m : (ℓ : Loc nD τ sig) → Buf (Elt Ideal) ℓ)

/-- The latent table by position. -/
def latentAt (c : Dev nD) (p : Fin 65536) : EReal := m ((c.tc : Thread nD τ).loc main_arg2) (ix1 p)

/-- The coordinate table by axis and position. -/
def coordAt (c : Dev nD) (a : Fin 3) (p : Fin 65536) : EReal := m ((c.tc : Thread nD τ).loc main_arg3) (ix2 a p)

/-- The latent block by position. -/
theorem latent_flat (c : Dev nD) (t : Fin cfg0.N) (j : S512x128.Idx) :
    (iblk m c 2 t : Vec Ideal S512x128 .f32) j = latentAt m c (flat j) := by
  rw [latent_block]
  refine shapeCast_apply _ _ j (ix1 (flat j)) ?_
  rw [Shape.rowMajor_val_one, Shape.rowMajor_val_two]
  rfl

/-- The coordinate block at an axis and an entry. -/
theorem coord_flat (c : Dev nD) (t : Fin cfg0.N) (a : Fin 3) (x : Fin 512) (y : Fin 128) :
    (iblk m c 3 t : Vec Ideal S3x512x128 .f32) (ix3 a x y) = coordAt m c a (flat (ix2 x y)) := by
  rw [coord_block]
  refine shapeCast_apply _ _ (ix3 a x y) (ix2 a (flat (ix2 x y))) ?_
  rw [Shape.rowMajor_val_two, Shape.rowMajor_val_three]
  show a.val * 65536 + (x.val * 128 + y.val) = (a.val * 512 + x.val) * 128 + y.val
  omega

/-- A plane read without its unit axis. -/
theorem flatPlane_apply (p : Vec Ideal S1x512x128 .f32) (j : S512x128.Idx) : flatPlane p j = p (ix3 0 (j 0) (j 1)) := by
  unfold flatPlane
  refine shapeCast_apply _ _ j (ix3 0 (j 0) (j 1)) ?_
  rw [Shape.rowMajor_val_two, Shape.rowMajor_val_three]
  show (0 * 512 + (j 0).val) * 128 + (j 1).val = (j 0).val * 128 + (j 1).val
  omega

theorem plane0_apply (x3 : Vec Ideal S3x512x128 .f32) (x : Fin 512) (y : Fin 128) : plane0 x3 (ix3 0 x y) = x3 (ix3 0 x y) := by
  unfold plane0
  rw [View.ld_unit]
  refine extractStridedSlice_apply _ _ _ _ (ix3 0 x y) fun a => ?_
  match a with
  | ⟨0, _⟩ => rfl
  | ⟨1, _⟩ => exact (Nat.zero_add _).symm
  | ⟨2, _⟩ => exact (Nat.zero_add _).symm

theorem plane1_apply (x3 : Vec Ideal S3x512x128 .f32) (x : Fin 512) (y : Fin 128) : plane1 x3 (ix3 0 x y) = x3 (ix3 1 x y) := by
  unfold plane1
  rw [View.ld_unit]
  refine extractStridedSlice_apply _ _ _ _ (ix3 1 x y) fun a => ?_
  match a with
  | ⟨0, _⟩ => rfl
  | ⟨1, _⟩ => exact (Nat.zero_add _).symm
  | ⟨2, _⟩ => exact (Nat.zero_add _).symm

theorem plane2_apply (x3 : Vec Ideal S3x512x128 .f32) (x : Fin 512) (y : Fin 128) : plane2 x3 (ix3 0 x y) = x3 (ix3 2 x y) := by
  unfold plane2
  rw [View.ld_unit]
  refine extractStridedSlice_apply _ _ _ _ (ix3 2 x y) fun a => ?_
  match a with
  | ⟨0, _⟩ => rfl
  | ⟨1, _⟩ => exact (Nat.zero_add _).symm
  | ⟨2, _⟩ => exact (Nat.zero_add _).symm

/-- The weighted sum of three variances, as the kernel adds them. -/
def weighted (a b d : EReal) : EReal :=
  Ideal.ofBits .f32 0x3CA3D70A#32 * (((Ideal.ofBits .f32 0x00000000#32 + a) + b) + d)

/-- The kernel's covariance term: the weighted sum of the three axes' variances at the twenty selected positions. -/
theorem covOf_eq (c : Dev nD) (hbot : ∀ q, ⊥ < latentAt m c q) :
    covOf m c = weighted (variance fun i => coordAt m c 0 (chosen (latentAt m c) i))
      (variance fun i => coordAt m c 1 (chosen (latentAt m c) i)) (variance fun i => coordAt m c 2 (chosen (latentAt m c) i)) := by
  unfold covOf
  rw [covTerm_eq, maskOf_eq (latentAt m c) _ (latent_flat m c _) hbot]
  rw [varOf_marks (latentAt m c) (coordAt m c 0) _ fun j =>
      (flatPlane_apply _ j).trans ((plane0_apply _ (j 0) (j 1)).trans (coord_flat m c _ 0 (j 0) (j 1))),
    varOf_marks (latentAt m c) (coordAt m c 1) _ fun j =>
      (flatPlane_apply _ j).trans ((plane1_apply _ (j 0) (j 1)).trans (coord_flat m c _ 1 (j 0) (j 1))),
    varOf_marks (latentAt m c) (coordAt m c 2) _ fun j =>
      (flatPlane_apply _ j).trans ((plane2_apply _ (j 0) (j 1)).trans (coord_flat m c _ 2 (j 0) (j 1)))]
  rfl

end Cert.Proof

end
-- ==== Proof.Ref.lean ====
module

public import proofs.«01_k».proof.Proof.SortPos
public import proofs.«01_k».proof.Proof.Gen.ReferenceIdeal.Run
public import Idealize.ShloMosaic.Lib.Pointwise
public import Idealize.ShloMosaic.Lib.Pipeline.Value
public import Idealize.ShloMosaic.Lib.StackMember
public import Idealize.ShloMosaic.Lib.IdealHost

/-! The reference's weighted trace at the ideal values: which positions its sort selects, what its gather reads, and
the trace of the covariance matrix of the gathered points. -/

@[expose] public section

set_option maxRecDepth 16384

noncomputable section

namespace Cert.Proof

open Cert.ReferenceIdeal Cert.ReferenceIdeal.Gen Idealize.ShloMosaic Idealize.ShloMosaic.TcCoe Idealize.SL.Sem

/-! ## The sort -/

/-- A selection by a bit computed from a proposition. -/
theorem select_bit {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The reference's comparator orders two keys as extended reals. -/
theorem comparator_eq (a b : EReal) (x y : BitVec 32) :
    comparator_f32_i32_d0 (F := Ideal) (a, x) (b, y) = BitVec.ofBool (decide (a < b)) := by
  have h0 : (Ideal.ofBits .f32 0x00000000#32 : EReal) = 0 := by simp [Ideal.ofBits, Ideal.ieee]
  have hk : ∀ t n : EReal, Scalar.select (BitVec.ofBool (decide (t ≠ t))) n
      (Scalar.select (BitVec.ofBool (decide (t = Ideal.ofBits .f32 0x00000000#32))) (Ideal.ofBits .f32 0x00000000#32) t) = t := fun t n => by
    rw [select_bit, select_bit, if_neg (fun h => h rfl), h0]
    by_cases h : t = 0
    · rw [if_pos h, h]
    · rw [if_neg h]
  have e : comparator_f32_i32_d0 (F := Ideal) (a, x) (b, y)
      = BitVec.ofBool (decide (Scalar.select (BitVec.ofBool (decide (a ≠ a))) (Ideal.ofBits .f32 0x7FC00000#32)
          (Scalar.select (BitVec.ofBool (decide (a = Ideal.ofBits .f32 0x00000000#32))) (Ideal.ofBits .f32 0x00000000#32) a)
        < Scalar.select (BitVec.ofBool (decide (b ≠ b))) (Ideal.ofBits .f32 0x7FC00000#32)
          (Scalar.select (BitVec.ofBool (decide (b = Ideal.ofBits .f32 0x00000000#32))) (Ideal.ofBits .f32 0x00000000#32) b))) := rfl
  rw [e, hk, hk]

/-- A two-operand sort of rank-1 tables reads its second operand at the sorting permutation of the positions. -/
theorem sort2_snd {n : Nat} {α β : Type} (cmp : α × β → α × β → BitVec 1) (x : (⟨1, ![n]⟩ : Shape).Idx → α)
    (y : (⟨1, ![n]⟩ : Shape).Idx → β) (i : Fin n) :
    (Host.sort2 ⟨1, ![n]⟩ 0 cmp x y).2 (Shape.Idx.ofFin i) = y (Shape.Idx.ofFin (sortedFrom (fun k k' =>
      cmp (x (Shape.Idx.ofFin k), y (Shape.Idx.ofFin k)) (x (Shape.Idx.ofFin k'), y (Shape.Idx.ofFin k')) == 1#1) i)) := by
  unfold Host.sort2
  simp

/-- When the comparator orders rows by decreasing key, the second operand is read at the position ranked there. -/
theorem sort2_decreasing {n : Nat} {α β : Type} (cmp : α × β → α × β → BitVec 1) (x : (⟨1, ![n]⟩ : Shape).Idx → α)
    (y : (⟨1, ![n]⟩ : Shape).Idx → β) (key : Fin n → EReal)
    (h : ∀ a b : Fin n, (cmp (x (Shape.Idx.ofFin a), y (Shape.Idx.ofFin a)) (x (Shape.Idx.ofFin b), y (Shape.Idx.ofFin b)) == 1#1)
      = decide (key b < key a)) (i : Fin n) :
    (Host.sort2 ⟨1, ![n]⟩ 0 cmp x y).2 (Shape.Idx.ofFin i) = y (Shape.Idx.ofFin (pick key i)) := by
  rw [sort2_snd, ← sortedFrom_decreasing key]
  have e : (fun a b : Fin n => cmp (x (Shape.Idx.ofFin a), y (Shape.Idx.ofFin a)) (x (Shape.Idx.ofFin b), y (Shape.Idx.ofFin b)) == 1#1)
      = fun a b => decide (key b < key a) := funext fun a => funext fun b => h a b
  rw [e]

/-- A rank-1 position table holds the position. -/
theorem iota_at {n : Nat} (k : Fin n) : iotaInDim ⟨1, ![n]⟩ 32 0 (Shape.Idx.ofFin k) = BitVec.ofNat 32 k.val := rfl

/-- The value bit of a proposition is set exactly when it holds. -/
theorem bit_beq (p : Prop) [Decidable p] : (BitVec.ofBool (decide p) == 1#1) = decide p := by
  by_cases h : p
  · rw [decide_eq_true h]; rfl
  · rw [decide_eq_false h]; rfl

/-- The reference's sorted positions: at place `k`, the position ranked `k`-th. -/
theorem sorted_at (x : FVec Ideal S65536 .f32) (k : Fin 65536) :
    (Host.sort2 S65536 0 (comparator_f32_i32_d0 (F := Ideal)) (Host.negf x) (iotaInDim S65536 32 0)).2 (Shape.Idx.ofFin k)
      = BitVec.ofNat 32 (pick (fun p => x (Shape.Idx.ofFin p)) k).val := by
  refine (sort2_decreasing (n := 65536) (comparator_f32_i32_d0 (F := Ideal)) (Host.negf x) (iotaInDim S65536 32 0)
    (fun p => x (Shape.Idx.ofFin p)) (fun a b => ?_) k).trans (iota_at _)
  have hn : ∀ q : Fin 65536, (Host.negf x (Shape.Idx.ofFin q) : EReal) = -(x (Shape.Idx.ofFin q)) := fun q => rfl
  rw [comparator_eq, bit_beq, hn, hn]
  exact decide_eq_decide.mpr EReal.neg_lt_neg_iff

/-! ## The terms of the reference -/

/-- The reference's twenty selected position words. -/
def idxOf (x : FVec Ideal S65536 .f32) : IVec S20 32 :=
  extractStridedSlice S20 ![0] (Host.sort2 S65536 0 (comparator_f32_i32_d0 (F := Ideal)) (Host.negf x) (iotaInDim S65536 32 0)).2 slices_S65536_S20_0

/-- The reference's column of gather starts. -/
def colOf (P : IVec S20 32) : IVec S20x1 32 :=
  broadcastInDim S20x1 ![0] bcast_S20_S20x1_0 (select (cmpi .slt P (broadcastInDim S20 ![] bcast_S_S20 (constantI S_ 32 0#32)))
    (addi P (broadcastInDim S20 ![] bcast_S_S20 (constantI S_ 32 65536#32))) P)

/-- The reference's gathered points, one per row. -/
def ptsOf (y : FVec Ideal S3x65536 .f32) (C : IVec S20x1 32) : FVec Ideal S20x3 .f32 :=
  transpose S20x3 [1, 0] (Host.gather gather_S3x65536_S20x1_S3x20_0_1_n_n_1_1_31 y C) transposes_S3x20_S20x3_1_0

/-- The reference's centred points. -/
def centredOf (X : FVec Ideal S20x3 .f32) : FVec Ideal S20x3 .f32 :=
  subf X (broadcastInDim S20x3 ![0, 1] bcast_S1x3_S20x3_0_1 (broadcastInDim S1x3 ![1] bcast_S3_S1x3_1
    (Host.divf (Host.reduceAdd X (constant S_ .f32 0x00000000#32) reducesTo_S20x3_S3_d0 h_S_)
      (broadcastInDim S3 ![] bcast_S_S3 (constant S_ .f32 0x41A00000#32)))))

/-- The reference's covariance matrix of centred points. -/
def matrixOf (C : FVec Ideal S20x3 .f32) : FVec Ideal S3x3 .f32 :=
  Host.divf (Host.dotGeneral dot_S3x20_S20x3_S3x3_1_0_0_1_n_n none (transpose S3x20 [1, 0] C transposes_S20x3_S3x20_1_0) C)
    (broadcastInDim S3x3 ![] bcast_S_S3x3 (constant S_ .f32 0x41980000#32))

/-- The reference's weighted trace of a matrix. -/
def traceOf (V : FVec Ideal S3x3 .f32) : FVec Ideal S_ .f32 :=
  mulf (constant S_ .f32 0x3CA3D70A#32) (Host.reduceAdd
    (select (cmpi .eq (addi (iotaInDim S3x3 32 0) (broadcastInDim S3x3 ![] bcast_S_S3x3 (constantI S_ 32 0#32))) (iotaInDim S3x3 32 1)) V
      (broadcastInDim S3x3 ![] bcast_S_S3x3 (constant S_ .f32 0x00000000#32)))
    (constant S_ .f32 0x00000000#32) reducesTo_S3x3_S_d0_1 h_S_)

/-- The reference's third result, in these terms. -/
theorem res28_eq (m : (ℓ : Loc nD τ sig) → Buf (Elt Ideal) ℓ) (c : Dev nD) :
    Cert.ReferenceIdeal.Value.res_main_v28 m c
      = traceOf (matrixOf (centredOf (ptsOf (m ((c.tc : Thread nD τ).loc main_arg3)) (colOf (idxOf (m ((c.tc : Thread nD τ).loc main_arg2))))))) := by
  unfold Cert.ReferenceIdeal.Value.res_main_v28
  rfl

/-! ## The gather -/

/-- The selected words, by rank. -/
theorem idxOf_apply (x : FVec Ideal S65536 .f32) (i : Fin 20) :
    idxOf x (Shape.Idx.ofFin i) = BitVec.ofNat 32 (pick (fun p => x (Shape.Idx.ofFin p)) (i.castLE (by norm_num))).val := by
  unfold idxOf
  rw [← sorted_at]
  refine extractStridedSlice_apply _ _ _ _ (Shape.Idx.ofFin (i.castLE (by norm_num))) fun a => ?_
  have ha : a = 0 := Subsingleton.elim _ _
  subst ha
  exact (Nat.zero_add _).symm

/-- A start word below the table's length is its own start. -/
theorem colOf_apply (P : IVec S20 32) (i : Fin 20) (p : Fin 65536) (h : P (Shape.Idx.ofFin i) = BitVec.ofNat 32 p.val) :
    colOf P (ix2 i 0) = BitVec.ofNat 32 p.val := by
  have hp := p.isLt
  have hneg : IntOp.cmpi .slt (BitVec.ofNat 32 p.val) 0#32 = 0#1 := by
    have hn : (BitVec.ofNat 32 p.val).slt 0#32 = false := by
      rw [BitVec.slt_eq_decide, decide_eq_false_iff_not, BitVec.toInt_eq_toNat_of_lt (by rw [BitVec.toNat_ofNat]; omega)]
      show ¬ ((BitVec.ofNat 32 p.val).toNat : Int) < 0
      omega
    unfold IntOp.cmpi
    rw [hn]
    rfl
  unfold colOf
  refine (broadcastInDim_apply _ _ _ (ix2 i 0) (Shape.Idx.ofFin i) fun a => ?_).trans ?_
  · have ha : a = 0 := Subsingleton.elim _ _
    subst ha
    rfl
  · show Scalar.select (IntOp.cmpi .slt (P (Shape.Idx.ofFin i)) 0#32) _ (P (Shape.Idx.ofFin i)) = _
    rw [h, hneg]
    rfl

/-- The reference's gather: a window of one whole column per start word. -/
abbrev gatherCols : GatherDims S3x65536 S20x1 S3x20 := gather_S3x65536_S20x1_S3x20_0_1_n_n_1_1_31

/-- A word below `65536`, read signed, is the number it was made from. -/
theorem toNat_word (n : Nat) (h : n < 65536) : (BitVec.ofNat 32 n).toInt.toNat = n := by
  rw [BitVec.toInt_ofNat', Int.bmod_def]
  omega

/-- The reference's gather at a column: the table's column at that column's start word. -/
theorem gather_at (y : FVec Ideal S3x65536 .f32) (C : IVec S20x1 32) (i : Fin 20) (a : Fin 3) (p : Fin 65536)
    (h : C (ix2 i 0) = BitVec.ofNat 32 p.val) :
    Host.gather gather_S3x65536_S20x1_S3x20_0_1_n_n_1_1_31 y C (ix2 a i) = y (ix2 a p) := by
  have hp := p.isLt
  unfold Host.gather
  congr 1
  funext b
  refine Fin.ext ?_
  match b with
  | ⟨0, _⟩ =>
    show gatherCols.start (ix2 a i) C 0 + gatherCols.batchCoord (ix2 a i) 0 + gatherCols.offCoord (ix2 a i) 0 = a.val
    rw [GatherDims.batchCoord_eq_zero _ _ _ List.not_mem_nil]
    have hs : gatherCols.start (ix2 a i) C 0 = 0 := by
      unfold GatherDims.start
      rw [dif_neg (show (0 : Fin 2) ∉ gatherCols.startIndexMap from by decide)]
    have ho : gatherCols.offCoord (ix2 a i) 0 = a.val := by
      unfold GatherDims.offCoord
      rw [dif_pos (show (0 : Fin 2) ∈ gatherCols.sKept from by decide)]
      rfl
    rw [hs, ho]
    omega
  | ⟨1, _⟩ =>
    show gatherCols.start (ix2 a i) C 1 + gatherCols.batchCoord (ix2 a i) 1 + gatherCols.offCoord (ix2 a i) 1 = p.val
    have hm : (1 : Fin 2) ∈ gatherCols.startIndexMap := by decide
    rw [GatherDims.batchCoord_eq_zero _ _ _ List.not_mem_nil,
      GatherDims.offCoord_eq_zero _ _ _ (show (1 : Fin 2) ∉ gatherCols.sKept from by decide)]
    unfold GatherDims.start
    rw [dif_pos hm]
    have hsi : gatherCols.siIdx (ix2 a i) ⟨List.idxOf (1 : Fin 2) gatherCols.startIndexMap, List.idxOf_lt_length_iff.2 hm⟩
        = ix2 i 0 := by
      funext e
      refine Fin.ext ?_
      match e with
      | ⟨0, _⟩ => rfl
      | ⟨1, _⟩ => rfl
    rw [hsi, h, toNat_word p.val hp]
    show min p.val (65536 - 1) + 0 + 0 = p.val
    omega

/-- A gathered point's coordinate is the table's at the start position. -/
theorem ptsOf_apply (y : FVec Ideal S3x65536 .f32) (C : IVec S20x1 32) (i : Fin 20) (a : Fin 3) (p : Fin 65536)
    (h : C (ix2 i 0) = BitVec.ofNat 32 p.val) : ptsOf y C (ix2 i a) = y (ix2 a p) := by
  unfold ptsOf
  refine (transpose_apply _ _ _ (ix2 i a) (ix2 a i) fun b => ?_).trans (gather_at y C i a p h)
  match b with
  | ⟨0, _⟩ => rfl
  | ⟨1, _⟩ => rfl

/-! ## The trace -/

theorem centredOf_apply (X : FVec Ideal S20x3 .f32) (i : Fin 20) (a : Fin 3) :
    centredOf X (ix2 i a) = X (ix2 i a) - Ideal.div (Ideal.ofBits .f32 0x00000000#32 + ∑ k : Fin 20, X (ix2 k a)) (Ideal.ofBits .f32 0x41A00000#32) := by
  pointwise [centredOf]

theorem matrixOf_apply (C : FVec Ideal S20x3 .f32) (a b : Fin 3) :
    matrixOf C (ix2 a b) = Ideal.div (∑ k : Fin 20, C (ix2 k a) * C (ix2 k b)) (Ideal.ofBits .f32 0x41980000#32) := by
  pointwise [matrixOf]

theorem traceOf_apply (V : FVec Ideal S3x3 .f32) (j : S_.Idx) :
    traceOf V j = Ideal.ofBits .f32 0x3CA3D70A#32 * (Ideal.ofBits .f32 0x00000000#32 + (V (ix2 0 0) + V (ix2 1 1) + V (ix2 2 2))) := by
  pointwise [traceOf]
  have hw : ∀ x y : Fin 3, IntOp.cmpi .eq (IntOp.addi (BitVec.ofNat 32 x.val) 0#32) (BitVec.ofNat 32 y.val)
      = BitVec.ofBool (decide (x = y)) := by decide
  simp only [hw, select_bit, Finset.sum_ite_eq, Finset.mem_univ, if_true, Fin.sum_univ_three]

end Cert.Proof

end
-- ==== Proof.Equation.lean ====
module

public import proofs.«01_k».proof.Proof.Cov
public import proofs.«01_k».proof.Proof.Ref

/-! # The two covariance formulas agree on finite coordinates

The kernel sums squares and subtracts the squared sum over twenty; the reference sums the squared deviations from the
mean. On finite coordinates both are the same real number. -/

@[expose] public section

set_option maxRecDepth 16384

noncomputable section

namespace Cert.Proof

open Idealize.ShloMosaic

theorem word_zero : Ideal.ofBits .f32 0x00000000#32 = 0 := by simp [Ideal.ofBits, Ideal.ieee]

theorem word_twenty : Ideal.ofBits .f32 0x41A00000#32 = ((20 : ℝ) : EReal) := by
  simp [Ideal.ofBits, Ideal.ieee]
  rw [← EReal.coe_mul]
  norm_num

theorem word_nineteen : Ideal.ofBits .f32 0x41980000#32 = ((19 : ℝ) : EReal) := by
  simp [Ideal.ofBits, Ideal.ieee]
  rw [← EReal.coe_mul]
  norm_num

/-- A finite sum of finite numbers is the real sum. -/
theorem coe_sum {n : Nat} (r : Fin n → ℝ) : (∑ i, ((r i : ℝ) : EReal)) = ((∑ i, r i : ℝ) : EReal) := by
  induction n with
  | zero => simp
  | succ n ih => rw [Fin.sum_univ_succ, Fin.sum_univ_succ, ih, ← EReal.coe_add]

/-- Over the reals: squared deviations from the mean of twenty numbers, summed. -/
theorem deviations (r : Fin 20 → ℝ) :
    ∑ i, (r i - (∑ k, r k) * (1 / 20)) * (r i - (∑ k, r k) * (1 / 20)) = ∑ i, r i * r i - (∑ i, r i) * (∑ i, r i) * (1 / 20) := by
  have e : ∀ i, (r i - (∑ k, r k) * (1 / 20)) * (r i - (∑ k, r k) * (1 / 20))
      = r i * r i - r i * (2 * ((∑ k, r k) * (1 / 20))) + ((∑ k, r k) * (1 / 20)) * ((∑ k, r k) * (1 / 20)) := fun i => by ring
  simp only [e]
  rw [Finset.sum_add_distrib, Finset.sum_sub_distrib, ← Finset.sum_mul, Finset.sum_const, Finset.card_univ, Fintype.card_fin]
  simp only [nsmul_eq_mul]
  push_cast
  ring

/-- The mean of twenty numbers, as the reference writes it. -/
def meanOf (x : Fin 20 → EReal) : EReal :=
  Ideal.div (Ideal.ofBits .f32 0x00000000#32 + ∑ k, x k) (Ideal.ofBits .f32 0x41A00000#32)

/-- The two-pass variance of finite numbers is the one-pass one. -/
theorem variance_eq (x : Fin 20 → EReal) (h : ∀ i, ∃ r : ℝ, x i = (r : EReal)) :
    Ideal.div (∑ k, (x k - meanOf x) * (x k - meanOf x)) (Ideal.ofBits .f32 0x41980000#32) = variance x := by
  choose r hr using h
  obtain rfl : x = fun i => ((r i : ℝ) : EReal) := funext hr
  have h20 : (20 : ℝ) ≠ 0 := by norm_num
  have h19 : (19 : ℝ) ≠ 0 := by norm_num
  unfold variance meanOf
  simp only [word_zero, word_twenty, word_nineteen, zero_add, Ideal.div_coe h20, Ideal.div_coe h19, coe_sum,
    ← EReal.coe_mul, ← EReal.coe_sub]
  rw [deviations]

/-- The position, as an index of a rank-1 table. -/
theorem ofFin_ix1 {n : Nat} (p : Fin n) : (Shape.Idx.ofFin p : (⟨1, ![n]⟩ : Shape).Idx) = ix1 p := by
  funext a
  obtain rfl : a = 0 := Subsingleton.elim _ _
  exact Fin.ext rfl

/-- The reference's trace term: twice a hundredth of the three variances of the chosen columns' coordinates. -/
theorem ref_cov (x : FVec Ideal Cert.ReferenceIdeal.S65536 .f32) (y : FVec Ideal Cert.ReferenceIdeal.S3x65536 .f32)
    (hy : ∀ a p, ∃ r : ℝ, y (ix2 a p) = (r : EReal)) (j : Cert.ReferenceIdeal.S_.Idx) :
    traceOf (matrixOf (centredOf (ptsOf y (colOf (idxOf x))))) j
      = weighted (variance fun i => y (ix2 0 (chosen (fun p => x (ix1 p)) i))) (variance fun i => y (ix2 1 (chosen (fun p => x (ix1 p)) i)))
          (variance fun i => y (ix2 2 (chosen (fun p => x (ix1 p)) i))) := by
  have hk : (fun p : Fin 65536 => x (Shape.Idx.ofFin p)) = fun p => x (ix1 p) := funext fun p => congrArg x (ofFin_ix1 p)
  have hq : ∀ i : Fin 20, idxOf x (Shape.Idx.ofFin i) = BitVec.ofNat 32 (chosen (fun p => x (ix1 p)) i).val := fun i => by
    have h := idxOf_apply x i
    rw [hk] at h
    exact h
  have hp : ∀ (i : Fin 20) (a : Fin 3), ptsOf y (colOf (idxOf x)) (ix2 i a) = y (ix2 a (chosen (fun p => x (ix1 p)) i)) := fun i a =>
    ptsOf_apply y _ i a _ (colOf_apply _ i _ (hq i))
  have hv : ∀ a : Fin 3, matrixOf (centredOf (ptsOf y (colOf (idxOf x)))) (ix2 a a)
      = variance fun i => y (ix2 a (chosen (fun p => x (ix1 p)) i)) := fun a => by
    rw [matrixOf_apply, ← variance_eq _ fun i => hy a _]
    simp only [centredOf_apply, hp]
    rfl
  rw [traceOf_apply, hv, hv, hv]
  unfold weighted
  rw [word_zero, zero_add, zero_add]

end Cert.Proof

end
-- ==== Proof.Results.lean ====
module

public import proofs.«01_k».proof.Proof.L1
public import proofs.«01_k».proof.Proof.Equation

/-! # The reference's three results are the kernel's

From arguments that agree, with the latent values above minus infinity and the coordinates real. -/

@[expose] public section

set_option maxRecDepth 16384

noncomputable section

namespace Cert.Proof

open Idealize.ShloMosaic Idealize.SL.Sem Cert.KernelIdeal.Gen

/-- The reference's first result is its second plus its third. -/
theorem res27_eq (m : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_main_v27 m c : FVec Ideal Cert.ReferenceIdeal.S_ .f32)
      = addf (F := Ideal) (Host.divf (Host.reduceAdd (Host.absf (subf (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))))
          (constant Cert.ReferenceIdeal.S_ .f32 0x00000000#32) Cert.ReferenceIdeal.Gen.reducesTo_S16384x2048_S_d0_1 Cert.ReferenceIdeal.Gen.h_S_)
          (constant Cert.ReferenceIdeal.S_ .f32 0x4C000000#32))
        (Cert.ReferenceIdeal.Value.res_main_v28 m c : FVec Ideal Cert.ReferenceIdeal.S_ .f32) := by
  unfold Cert.ReferenceIdeal.Value.res_main_v27 Cert.ReferenceIdeal.Value.res_main_v28
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's mean absolute difference is the kernel's. -/
theorem ref_v3
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Host.divf (Host.reduceAdd (F := Ideal) (Host.absf (subf (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))))
          (constant Cert.ReferenceIdeal.S_ .f32 0x00000000#32) Cert.ReferenceIdeal.Gen.reducesTo_S16384x2048_S_d0_1 Cert.ReferenceIdeal.Gen.h_S_)
          (constant Cert.ReferenceIdeal.S_ .f32 0x4C000000#32)
      = fun _ => k0_pay3 (F := Ideal) (accOf m c 15 last_lt) := by
  funext j
  rw [h0, h1, acc_total]
  exact ref_l1 _ _ _ _ j

/-- The reference's trace term is the kernel's covariance term. -/
theorem ref_v28
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (hbot : ∀ q, ⊥ < latentAt m c q) (hreal : ∀ a p, ∃ r : ℝ, coordAt m c a p = (r : EReal)) :
    Cert.ReferenceIdeal.Value.res_main_v28 m' c = fun _ => covOf m c := by
  funext j
  rw [res28_eq, h2, h3, covOf_eq m c hbot]
  exact ref_cov _ _ hreal j

/-- The reference's sum is the kernel's. -/
theorem ref_v27
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (hbot : ∀ q, ⊥ < latentAt m c q) (hreal : ∀ a p, ∃ r : ℝ, coordAt m c a p = (r : EReal)) :
    Cert.ReferenceIdeal.Value.res_main_v27 m' c = fun _ => k0_pay4 (F := Ideal) (accOf m c 15 last_lt) (covOf m c) := by
  refine (res27_eq m' c).trans ?_
  rw [ref_v3 m m' c h0 h1, ref_v28 m m' c h2 h3 hbot hreal]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Pre
public import proofs.«01_k».proof.Proof.Results
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel at the machine's floats runs to an end, leaves its arguments and every counter as they were. -/
theorem frame_kernel : Cert.quiescent_Kernel := fun m ρ _ => Cert.Kernel.Gen.frame m ρ

/-- The kernel at the ideal floats likewise. -/
theorem frame_kernelIdeal : Cert.quiescent_KernelIdeal := fun m ρ _ => Cert.KernelIdeal.Gen.frame m ρ

/-- The reference likewise; it declares no semaphore, so every counter is zero. -/
theorem frame_referenceIdeal : Cert.quiescent_ReferenceIdeal := by
  intro m ρ _
  exact (θ_run Cert.ReferenceIdeal.defs _ _).mono (fun r h => ⟨fun c => ⟨(h c).2.2.2.1, (h c).2.2.2.2.1,
      (h c).2.2.2.2.2.1, (h c).2.2.2.2.2.2⟩, Idealize.ShloMosaic.sem_eq_zero_of_no_sems (by decide) r.2⟩)
    (Cert.ReferenceIdeal.Value.run (F := Ideal) m ρ)

/-- From memories agreeing on the arguments, with the latent values above minus infinity and the coordinates real, the
    kernel and the reference end with equal results, all three of them, and unchanged arguments. -/
theorem same_results [hPre : Cert.Pre_selectable.Facts] : Cert.algebraic_KernelIdeal_ReferenceIdeal_pre_selectable := by
  intro m g m' g' hpre hargs
  have hd := fun c => pre_decode _ _ _ _ (hpre c)
  refine ⟨fun c => fun _ => Cert.KernelIdeal.Gen.k0_pay4 (F := Ideal) (accOf m c 15 last_lt) (covOf m c),
    fun c => fun _ => Cert.KernelIdeal.Gen.k0_pay3 (F := Ideal) (accOf m c 15 last_lt), fun c => fun _ => covOf m c,
    kernel_run m g, ?_⟩
  refine (θ_run Cert.ReferenceIdeal.defs _ _).mono (fun r h c => ?_) (Cert.ReferenceIdeal.Value.run (F := Ideal) m' g')
  obtain ⟨h27, h3, h28, hrest⟩ := h c
  obtain ⟨a0, a1, a2, a3⟩ := hargs c
  exact ⟨h27.trans (ref_v27 m m' c a0 a1 a2 a3 (hd c).1 (hd c).2), h3.trans (ref_v3 m m' c a0 a1),
    h28.trans (ref_v28 m m' c a2 a3 (hd c).1 (hd c).2), hrest⟩

theorem claim : Cert.Claim := ⟨Cert.Kernel.Gen.facts, Cert.KernelIdeal.Gen.facts, Cert.ReferenceIdeal.Gen.facts, preFacts,
  frame_kernel, frame_kernelIdeal, fun m ρ _ => Cert.KernelIdeal.Gen.frame m ρ, frame_referenceIdeal,
  fun m ρ _ => frame_referenceIdeal m ρ trivial, trivial, same_results (hPre := preFacts)⟩

end Cert.Proof

end
